-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S2x2x384x768 : Shape := ⟨4, ![2, 2, 384, 768]⟩
abbrev S2x384x768 : Shape := ⟨3, ![2, 384, 768]⟩
abbrev S4 : Shape := ⟨1, ![4]⟩
abbrev S2 : Shape := ⟨1, ![2]⟩
abbrev S1 : Shape := ⟨1, ![1]⟩
abbrev S2x3 : Shape := ⟨2, ![2, 3]⟩
abbrev S2x2 : Shape := ⟨2, ![2, 2]⟩
abbrev S_ : Shape := ⟨0, ![]⟩
abbrev S384x768 : Shape := ⟨2, ![384, 768]⟩
abbrev S768x768 : Shape := ⟨2, ![768, 768]⟩
abbrev S1x1 : Shape := ⟨2, ![1, 1]⟩
abbrev S1x1x384x768 : Shape := ⟨4, ![1, 1, 384, 768]⟩
abbrev S1x384x768 : Shape := ⟨3, ![1, 384, 768]⟩
abbrev S384x1536 : Shape := ⟨2, ![384, 1536]⟩

abbrev nBuf : Space → Nat
  | .hbm => 3
  | .vmem => 10
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x768, .bf16⟩
  | .local _ .vmem, ⟨3, _⟩ => ⟨S768x1536, .bf16⟩
  | .local _ .vmem, ⟨4, _⟩ => ⟨S1536x1536, .bf16⟩
  | .local _ .vmem, ⟨5, _⟩ => ⟨S1536x1536, .f32⟩
  | .local _ .vmem, ⟨6, _⟩ => ⟨S2x2x384x768, .bf16⟩
  | .local _ .vmem, ⟨7, _⟩ => ⟨S2x384x768, .bf16⟩
  | .local _ .vmem, ⟨8, _⟩ => ⟨S2x384x768, .bf16⟩
  | .local _ .vmem, ⟨9, _⟩ => ⟨S2x2x384x768, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.xori v2 c2_i32
  ![v5.toNat]
def k0_off2 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.xori v2 c2_i32
  let c384_i32_1 : BitVec 32 := 384#32
  let v7 : BitVec 32 := Scalar.muli v5 c384_i32_1
  let c0_i32 : BitVec 32 := 0#32
  ![v7.toNat, 0]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_23 : BitVec 32 := 384#32
  let v35 : BitVec 32 := Scalar.muli v2 c384_i32_23
  let c0_i32_24 : BitVec 32 := 0#32
  ![v35.toNat, 0]
def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.xori v2 c3_i32
  let c1_i32_27 : BitVec 32 := 1#32
  let v41 : BitVec 32 := Scalar.muli v3 c1_i32_27
  let v42 : BitVec 32 := Scalar.addi c0_i32_28 v41
  v42.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_30 : BitVec 32 := 1#32
  let v43 : BitVec 32 := Scalar.muli v4 c1_i32_30
  let v44 : BitVec 32 := Scalar.addi c0_i32_31 v43
  v44.toNat
def k0_off5 (d0 : Dev nD) (c2_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : BitVec 32 := Scalar.xori v2 c2_i32_45
  let c384_i32_50 : BitVec 32 := 384#32
  let v64 : BitVec 32 := Scalar.muli v57 c384_i32_50
  let v65 : Index := Scalar.indexCast v64
  let c0 : Index := 0#32
  ![v65.toNat, 0]
def k0_off6 (d0 : Dev nD) (c2_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v82 : BitVec 32 := Scalar.xori v2 c2_i32_62
  let c384_i32_67 : BitVec 32 := 384#32
  let v89 : BitVec 32 := Scalar.muli v82 c384_i32_67
  let v90 : Index := Scalar.indexCast v89
  let c0_68 : Index := 0#32
  ![v90.toNat, 0]
def k0_off7 (d0 : Dev nD) (c2_i32_33 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.xori v2 c2_i32_33
  let c384_i32_69 : BitVec 32 := 384#32
  let v94 : BitVec 32 := Scalar.muli v45 c384_i32_69
  let c0_i32_80 : BitVec 32 := 0#32
  ![v94.toNat, 0]
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.xori v2 c3_i32
  let c1_i32_76 : BitVec 32 := 1#32
  let v95 : BitVec 32 := Scalar.muli v3 c1_i32_76
  let v96 : BitVec 32 := Scalar.addi c0_i32_77 v95
  v96.toNat
def k0_off8 (d0 : Dev nD) (c2_i32_89 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.xori v2 c2_i32_89
  let c384_i32_95 : BitVec 32 := 384#32
  let v120 : BitVec 32 := Scalar.muli v113 c384_i32_95
  let v121 : Index := Scalar.indexCast v120
  let c768_96 : Index := 768#32
  ![v121.toNat, 768]
def k0_off9 (d0 : Dev nD) (c2_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.xori v2 c2_i32_35
  let c384_i32_97 : BitVec 32 := 384#32
  let v125 : BitVec 32 := Scalar.muli v47 c384_i32_97
  let c768_i32_108 : BitVec 32 := 768#32
  ![v125.toNat, 768]
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_104 : BitVec 32 := 1#32
  let v126 : BitVec 32 := Scalar.muli v4 c1_i32_104
  let v127 : BitVec 32 := Scalar.addi c0_i32_105 v126
  v127.toNat
def k0_dev5 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.xori v2 c3_i32
  let c1_i32_133 : BitVec 32 := 1#32
  let v164 : BitVec 32 := Scalar.muli v3 c1_i32_133
  let v165 : BitVec 32 := Scalar.addi c0_i32_134 v164
  v165.toNat
def k0_dev6 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_162 : BitVec 32 := 1#32
  let v202 : BitVec 32 := Scalar.muli v4 c1_i32_162
  let v203 : BitVec 32 := Scalar.addi c0_i32_163 v202
  v203.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_187 : BitVec 32 := 384#32
  let v241 : BitVec 32 := Scalar.muli v2 c384_i32_187
  let v242 : Index := Scalar.indexCast v241
  let c0_188 : Index := 0#32
  ![v242.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_196 : BitVec 32 := 384#32
  let v256 : BitVec 32 := Scalar.muli v2 c384_i32_196
  let v257 : Index := Scalar.indexCast v256
  let c0_197 : Index := 0#32
  ![v257.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_203 : BitVec 32 := 384#32
  let v267 : BitVec 32 := Scalar.muli v2 c384_i32_203
  let v268 : Index := Scalar.indexCast v267
  let c768_204 : Index := 768#32
  ![v268.toNat, 768]
def k0_dev7 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_229 : BitVec 32 := 1#32
  let v292 : BitVec 32 := Scalar.muli v4 c1_i32_229
  let v293 : BitVec 32 := Scalar.addi c0_i32_230 v292
  v293.toNat
def k0_dev8 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.xori v2 c3_i32
  let c1_i32_257 : BitVec 32 := 1#32
  let v321 : BitVec 32 := Scalar.muli v3 c1_i32_257
  let v322 : BitVec 32 := Scalar.addi c0_i32_258 v321
  v322.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_319 : BitVec 32 := 384#32
  let v389 : BitVec 32 := Scalar.muli v2 c384_i32_319
  let c0_i32_327 : BitVec 32 := 0#32
  ![v389.toNat, 0]
def k0_dev9 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_323 : BitVec 32 := 1#32
  let v390 : BitVec 32 := Scalar.muli v4 c1_i32_323
  let v391 : BitVec 32 := Scalar.addi c0_i32_324 v390
  v391.toNat
def k0_dev10 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.xori v2 c3_i32
  let c1_i32_335 : BitVec 32 := 1#32
  let v400 : BitVec 32 := Scalar.muli v3 c1_i32_335
  let v401 : BitVec 32 := Scalar.addi c0_i32_336 v400
  v401.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_357 : BitVec 32 := 384#32
  let v430 : BitVec 32 := Scalar.muli v2 c384_i32_357
  let c768_i32_365 : BitVec 32 := 768#32
  ![v430.toNat, 768]
def k0_dev11 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.xori v2 c3_i32
  let c1_i32_361 : BitVec 32 := 1#32
  let v431 : BitVec 32 := Scalar.muli v3 c1_i32_361
  let v432 : BitVec 32 := Scalar.addi c0_i32_362 v431
  v432.toNat
def k0_dev12 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_373 : BitVec 32 := 1#32
  let v441 : BitVec 32 := Scalar.muli v4 c1_i32_373
  let v442 : BitVec 32 := Scalar.addi c0_i32_374 v441
  v442.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_378 : BitVec 32 := 384#32
  let v450 : BitVec 32 := Scalar.muli v2 c384_i32_378
  let v451 : Index := Scalar.indexCast v450
  let c0_379 : Index := 0#32
  ![v451.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_383 : BitVec 32 := 384#32
  let v460 : BitVec 32 := Scalar.muli v2 c384_i32_383
  let c0_i32_385 : BitVec 32 := 0#32
  ![v460.toNat, 0]
def k0_dev13 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.xori v2 c3_i32
  let c1_i32_403 : BitVec 32 := 1#32
  let v473 : BitVec 32 := Scalar.muli v3 c1_i32_403
  let v474 : BitVec 32 := Scalar.addi c0_i32_404 v473
  v474.toNat
def k0_dev14 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_437 : BitVec 32 := 1#32
  let v506 : BitVec 32 := Scalar.muli v4 c1_i32_437
  let v507 : BitVec 32 := Scalar.addi c0_i32_438 v506
  v507.toNat
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1536x3072, .f32⟩
  | .hbm, ⟨1, _⟩ => ⟨S3072x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | _, _ => ⟨S1536x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Chunks.lean ====
/-
The places of the kernel: the four devices and their partners, the row chunks and column halves of every buffer,
the slots the peers write, and the DMA semaphores, each under one name that says what it counts.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.Sem

/-! ## Devices -/

set_option backward.proofsInPublic true in
/-- The device whose number differs from `c`'s in the bits of `k`. -/
def flip (k : Fin 4) (c : Dev nD) : Dev nD := ⟨c.val ^^^ k.val, by revert k c; decide⟩

abbrev x1 (c : Dev nD) : Dev nD := flip 1 c
abbrev x2 (c : Dev nD) : Dev nD := flip 2 c
abbrev x3 (c : Dev nD) : Dev nD := flip 3 c

theorem flip_flip (k : Fin 4) (c : Dev nD) : flip k (flip k c) = c := by revert k c; decide

/-- The partner the column half `d` is exchanged with in the first (and last) step, -/
def p1 (d : Fin 2) (c : Dev nD) : Dev nD := if d = 0 then x3 c else x1 c
/-- and in the two middle steps. -/
def p2 (d : Fin 2) (c : Dev nD) : Dev nD := if d = 0 then x1 c else x3 c

theorem p1_p1 (d : Fin 2) (c : Dev nD) : p1 d (p1 d c) = c := by revert d c; decide
theorem p2_p2 (d : Fin 2) (c : Dev nD) : p2 d (p2 d c) = c := by revert d c; decide

/-! ## Chunks -/

/-- Row chunk `j` of a device's block of `A`. -/
abbrev aRect (j : Dev nD) : Rect S1536x768 := Rect.unit (s := S1536x768) ![384 * j.val, 0] S384x768.size (by revert j; decide)
/-- Column half `d` of a device's block of `B`. -/
abbrev bRect (d : Fin 2) : Rect S768x1536 := Rect.unit (s := S768x1536) ![0, 768 * d.val] S768x768.size (by revert d; decide)
/-- Chunk `(j, d)` of the result: row chunk `j`, column half `d`. -/
abbrev cRect (j : Dev nD) (d : Fin 2) : Rect S1536x1536 :=
  Rect.unit (s := S1536x1536) ![384 * j.val, 768 * d.val] S384x768.size (by revert j d; decide)

/-- Rows `j` of the result, both column halves. -/
abbrev rRect (j : Dev nD) : Rect S1536x1536 :=
  Rect.unit (s := S1536x1536) ![384 * j.val, 0] S384x1536.size (by revert j; decide)

abbrev aH (j : Dev nD) : Memref sig .tc .hbm S384x768 .f32 := (Memref.whole main_arg0).slice (aRect j) (fun _ => rfl)
abbrev bH (d : Fin 2) : Memref sig .tc .hbm S768x768 .f32 := (Memref.whole main_arg1).slice (bRect d) (fun _ => rfl)
abbrev oH (j : Dev nD) (d : Fin 2) : Memref sig .tc .hbm S384x768 .f32 := (Memref.whole main_v1).slice (cRect j d) (fun _ => rfl)
abbrev oHr (j : Dev nD) : Memref sig .tc .hbm S384x1536 .f32 := (Memref.whole main_v1).slice (rRect j) (fun _ => rfl)
abbrev aV (j : Dev nD) : Memref sig .tc .vmem S384x768 .f32 := (Memref.whole cc0_scratch0).slice (aRect j) (fun _ => rfl)
abbrev bV (d : Fin 2) : Memref sig .tc .vmem S768x768 .f32 := (Memref.whole cc0_scratch1).slice (bRect d) (fun _ => rfl)
abbrev aB (j : Dev nD) : Memref sig .tc .vmem S384x768 .bf16 := (Memref.whole cc0_scratch2).slice (aRect j) (fun _ => rfl)
abbrev bB (d : Fin 2) : Memref sig .tc .vmem S768x768 .bf16 := (Memref.whole cc0_scratch3).slice (bRect d) (fun _ => rfl)
abbrev acc (j : Dev nD) (d : Fin 2) : Memref sig .tc .vmem S384x768 .bf16 := (Memref.whole cc0_scratch4).slice (cRect j d) (fun _ => rfl)
abbrev accr (j : Dev nD) : Memref sig .tc .vmem S384x1536 .bf16 := (Memref.whole cc0_scratch4).slice (rRect j) (fun _ => rfl)
abbrev oV (j : Dev nD) (d : Fin 2) : Memref sig .tc .vmem S384x768 .f32 := (Memref.whole cc0_scratch5).slice (cRect j d) (fun _ => rfl)
abbrev oVr (j : Dev nD) : Memref sig .tc .vmem S384x1536 .f32 := (Memref.whole cc0_scratch5).slice (rRect j) (fun _ => rfl)

/-- Slot `(d, j)` of a two-by-two buffer of chunks, slot `d` of a pair of them. -/
abbrev sRect4 (d j : Fin 2) : Rect S2x2x384x768 :=
  Rect.unit (s := S2x2x384x768) ![d.val, j.val, 0, 0] S1x1x384x768.size (by revert d j; decide)
abbrev sRect3 (d : Fin 2) : Rect S2x384x768 :=
  Rect.unit (s := S2x384x768) ![d.val, 0, 0] S1x384x768.size (by revert d; decide)

/-- Where the peers' chunks arrive: first step, second step, and the two steps back. -/
abbrev s1B (d j : Fin 2) : Memref sig .tc .vmem S384x768 .bf16 :=
  ((Memref.whole cc0_scratch6).slice (sRect4 d j) (fun _ => rfl)).squeeze S384x768 squeezes_S1x1x384x768_S384x768
abbrev s2B (d : Fin 2) : Memref sig .tc .vmem S384x768 .bf16 :=
  ((Memref.whole cc0_scratch7).slice (sRect3 d) (fun _ => rfl)).squeeze S384x768 squeezes_S1x384x768_S384x768
abbrev g1B (d : Fin 2) : Memref sig .tc .vmem S384x768 .bf16 :=
  ((Memref.whole cc0_scratch8).slice (sRect3 d) (fun _ => rfl)).squeeze S384x768 squeezes_S1x384x768_S384x768
abbrev g2B (d j : Fin 2) : Memref sig .tc .vmem S384x768 .bf16 :=
  ((Memref.whole cc0_scratch9).slice (sRect4 d j) (fun _ => rfl)).squeeze S384x768 squeezes_S1x1x384x768_S384x768

/-! ## Semaphores -/

/-- The DMA semaphores, by what they count: the loads of `A`'s chunks and of `B`'s halves, the stores of the
    result's rows and chunks, and for each of the four steps the sends (`…s`) and the arrivals (`…r`). -/
inductive Chan where
  | a (j : Fin 4)
  | b (d : Fin 2)
  | own
  | wb (d : Fin 2) (i : Fin 3)
  | s1s (d j : Fin 2)
  | s1r (d j : Fin 2)
  | s2s (d : Fin 2)
  | s2r (d : Fin 2)
  | g1s (d : Fin 2)
  | g1r (d : Fin 2)
  | g2s (d j : Fin 2)
  | g2r (d j : Fin 2)
  deriving DecidableEq

/-- The semaphore's number. -/
def Chan.num : Chan → ℕ
  | .a j => j
  | .b d => 4 + d
  | .own => 6
  | .wb d i => 7 + (3 * d + i)
  | .s1s d j => 13 + (2 * d + j)
  | .s1r d j => 17 + (2 * d + j)
  | .s2s d => 21 + d
  | .s2r d => 23 + d
  | .g1s d => 25 + d
  | .g1r d => 27 + d
  | .g2s d j => 29 + (2 * d + j)
  | .g2r d j => 33 + (2 * d + j)

theorem Chan.num_lt (k : Chan) : k.num < 37 := by cases k <;> simp only [Chan.num] <;> omega

def Chan.sem (k : Chan) : DmaSem sig := ⟨k.num, k.num_lt⟩

/-- Every DMA semaphore is one of these. -/
def chan (q : DmaSem sig) : Chan :=
  if h0 : q.val < 4 then .a ⟨q.val, h0⟩
  else if h1 : q.val < 6 then .b ⟨q.val - 4, by omega⟩
  else if q.val = 6 then .own
  else if h2 : q.val < 13 then .wb ⟨(q.val - 7) / 3, by omega⟩ ⟨(q.val - 7) % 3, by omega⟩
  else if h3 : q.val < 17 then .s1s ⟨(q.val - 13) / 2, by omega⟩ ⟨(q.val - 13) % 2, by omega⟩
  else if h4 : q.val < 21 then .s1r ⟨(q.val - 17) / 2, by omega⟩ ⟨(q.val - 17) % 2, by omega⟩
  else if h5 : q.val < 23 then .s2s ⟨q.val - 21, by omega⟩
  else if h6 : q.val < 25 then .s2r ⟨q.val - 23, by omega⟩
  else if h7 : q.val < 27 then .g1s ⟨q.val - 25, by omega⟩
  else if h8 : q.val < 29 then .g1r ⟨q.val - 27, by omega⟩
  else if h9 : q.val < 33 then .g2s ⟨(q.val - 29) / 2, by omega⟩ ⟨(q.val - 29) % 2, by omega⟩
  else .g2r ⟨(q.val - 33) / 2, by have : q.val < 37 := q.isLt; omega⟩ ⟨(q.val - 33) % 2, by omega⟩

theorem chan_sem (k : Chan) : chan k.sem = k := by
  cases k with
  | a j => revert j; decide
  | b d => revert d; decide
  | own => rfl
  | wb d i => revert d i; decide
  | s1s d j => revert d j; decide
  | s1r d j => revert d j; decide
  | s2s d => revert d; decide
  | s2r d => revert d; decide
  | g1s d => revert d; decide
  | g1r d => revert d; decide
  | g2s d j => revert d j; decide
  | g2r d j => revert d j; decide

theorem sem_inj {k k' : Chan} (h : k.sem = k'.sem) : k = k' := by rw [← chan_sem k, h, chan_sem]

theorem sem_chan (q : DmaSem sig) : (chan q).sem = q := by revert q; decide

/-! ## Where the kernel's computed indices land -/

theorem off2_1 (c : Dev nD) : k0_off2 c 1#32 = ![384 * (x1 c).val, 0] := by revert c; decide
theorem off2_2 (c : Dev nD) : k0_off2 c 2#32 = ![384 * (x2 c).val, 0] := by revert c; decide
theorem off2_3 (c : Dev nD) : k0_off2 c 3#32 = ![384 * (x3 c).val, 0] := by revert c; decide
theorem off4' (c : Dev nD) : k0_off4 c = ![384 * c.val, 0] := by revert c; decide
theorem off5_1 (c : Dev nD) : k0_off5 c 1#32 = ![384 * (x1 c).val, 0] := by revert c; decide
theorem off5_2 (c : Dev nD) : k0_off5 c 2#32 = ![384 * (x2 c).val, 0] := by revert c; decide
theorem off5_3 (c : Dev nD) : k0_off5 c 3#32 = ![384 * (x3 c).val, 0] := by revert c; decide
theorem off6_1 (c : Dev nD) : k0_off6 c 1#32 = ![384 * (x1 c).val, 768 * (0 : Fin 2).val] := by revert c; decide
theorem off6_2 (c : Dev nD) : k0_off6 c 2#32 = ![384 * (x2 c).val, 768 * (0 : Fin 2).val] := by revert c; decide
theorem off6_3 (c : Dev nD) : k0_off6 c 3#32 = ![384 * (x3 c).val, 768 * (0 : Fin 2).val] := by revert c; decide
theorem off7_1 (c : Dev nD) : k0_off7 c 1#32 = ![384 * (x1 c).val, 768 * (0 : Fin 2).val] := by revert c; decide
theorem off7_2 (c : Dev nD) : k0_off7 c 2#32 = ![384 * (x2 c).val, 768 * (0 : Fin 2).val] := by revert c; decide
theorem off7_3 (c : Dev nD) : k0_off7 c 3#32 = ![384 * (x3 c).val, 768 * (0 : Fin 2).val] := by revert c; decide
theorem off8_1 (c : Dev nD) : k0_off8 c 1#32 = ![384 * (x1 c).val, 768 * (1 : Fin 2).val] := by revert c; decide
theorem off8_2 (c : Dev nD) : k0_off8 c 2#32 = ![384 * (x2 c).val, 768 * (1 : Fin 2).val] := by revert c; decide
theorem off8_3 (c : Dev nD) : k0_off8 c 3#32 = ![384 * (x3 c).val, 768 * (1 : Fin 2).val] := by revert c; decide
theorem off9_1 (c : Dev nD) : k0_off9 c 1#32 = ![384 * (x1 c).val, 768 * (1 : Fin 2).val] := by revert c; decide
theorem off9_2 (c : Dev nD) : k0_off9 c 2#32 = ![384 * (x2 c).val, 768 * (1 : Fin 2).val] := by revert c; decide
theorem off9_3 (c : Dev nD) : k0_off9 c 3#32 = ![384 * (x3 c).val, 768 * (1 : Fin 2).val] := by revert c; decide
theorem off10' (c : Dev nD) : k0_off10 c = ![384 * c.val, 0] := by revert c; decide
theorem off11' (c : Dev nD) : k0_off11 c = ![384 * c.val, 768 * (0 : Fin 2).val] := by revert c; decide
theorem off12' (c : Dev nD) : k0_off12 c = ![384 * c.val, 768 * (1 : Fin 2).val] := by revert c; decide
theorem off13' (c : Dev nD) : k0_off13 c = ![384 * c.val, 768 * (0 : Fin 2).val] := by revert c; decide
theorem off14' (c : Dev nD) : k0_off14 c = ![384 * c.val, 768 * (1 : Fin 2).val] := by revert c; decide
theorem off15' (c : Dev nD) : k0_off15 c = ![384 * c.val, 0] := by revert c; decide
theorem off16' (c : Dev nD) : k0_off16 c = ![384 * c.val, 0] := by revert c; decide

theorem dev1' (c : Dev nD) : (⟨k0_dev1 c, k0_dev1_lt c⟩ : Dev nD) = x3 c := by revert c; decide
theorem dev2' (c : Dev nD) : (⟨k0_dev2 c, k0_dev2_lt c⟩ : Dev nD) = x1 c := by revert c; decide
theorem dev3' (c : Dev nD) : (⟨k0_dev3 c, k0_dev3_lt c⟩ : Dev nD) = p1 0 c := by revert c; decide
theorem dev4' (c : Dev nD) : (⟨k0_dev4 c, k0_dev4_lt c⟩ : Dev nD) = p1 1 c := by revert c; decide
theorem dev5' (c : Dev nD) : (⟨k0_dev5 c, k0_dev5_lt c⟩ : Dev nD) = p1 0 c := by revert c; decide
theorem dev6' (c : Dev nD) : (⟨k0_dev6 c, k0_dev6_lt c⟩ : Dev nD) = p1 1 c := by revert c; decide
theorem dev7' (c : Dev nD) : (⟨k0_dev7 c, k0_dev7_lt c⟩ : Dev nD) = p2 0 c := by revert c; decide
theorem dev8' (c : Dev nD) : (⟨k0_dev8 c, k0_dev8_lt c⟩ : Dev nD) = p2 1 c := by revert c; decide
theorem dev9' (c : Dev nD) : (⟨k0_dev9 c, k0_dev9_lt c⟩ : Dev nD) = p2 0 c := by revert c; decide
theorem dev10' (c : Dev nD) : (⟨k0_dev10 c, k0_dev10_lt c⟩ : Dev nD) = p1 0 c := by revert c; decide
theorem dev11' (c : Dev nD) : (⟨k0_dev11 c, k0_dev11_lt c⟩ : Dev nD) = p2 1 c := by revert c; decide
theorem dev12' (c : Dev nD) : (⟨k0_dev12 c, k0_dev12_lt c⟩ : Dev nD) = p1 1 c := by revert c; decide
theorem dev13' (c : Dev nD) : (⟨k0_dev13 c, k0_dev13_lt c⟩ : Dev nD) = p1 0 c := by revert c; decide
theorem dev14' (c : Dev nD) : (⟨k0_dev14 c, k0_dev14_lt c⟩ : Dev nD) = p1 1 c := by revert c; decide

theorem sem_a1 (c : Dev nD) : ((cc0_scratch10.slice (Rect.unit (s := S4) (k0_off1 c 1#32) S1.size (k0_off1_inb c 0))).squeeze S_ squeezes_S1_S_).sem
    = (Chan.a (x1 c)).sem := by revert c; decide
theorem sem_a2 (c : Dev nD) : ((cc0_scratch10.slice (Rect.unit (s := S4) (k0_off1 c 2#32) S1.size (k0_off1_inb c 1))).squeeze S_ squeezes_S1_S_).sem
    = (Chan.a (x2 c)).sem := by revert c; decide
theorem sem_a3 (c : Dev nD) : ((cc0_scratch10.slice (Rect.unit (s := S4) (k0_off1 c 3#32) S1.size (k0_off1_inb c 2))).squeeze S_ squeezes_S1_S_).sem
    = (Chan.a (x3 c)).sem := by revert c; decide
theorem sem_a0 (c : Dev nD) : ((cc0_scratch10.slice (Rect.unit (s := S4) (k0_off3 c) S1.size (k0_off3_inb c))).squeeze S_ squeezes_S1_S_).sem
    = (Chan.a c).sem := by revert c; decide

end Cert.AllReduce
end
-- ==== Proof.Contents.lean ====
/-
What every chunk holds, over any float values: a device's partial products, the sums the two reducing steps form of
them, and the chunks of the result they end in.
-/
module

public import proofs.«01_k».proof.Proof.Chunks
public import Idealize.ShloMosaic.Lib.Pipeline.Value
public import Idealize.ShloMosaic.Lib.Pointwise.Index

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Row chunk `j` of device `c`'s block of `A`, column half `d` of its block of `B`, -/
def aVal (c j : Dev nD) : S384x768.Idx → Elt F .f32 := fun i => m ((c : Thread nD τ).loc main_arg0) ((aRect j).emb i)
def bVal (c : Dev nD) (d : Fin 2) : S768x768.Idx → Elt F .f32 := fun i => m ((c : Thread nD τ).loc main_arg1) ((bRect d).emb i)

/-- and their roundings to bfloat16. -/
def aRnd (c j : Dev nD) : Vec F S384x768 .bf16 := k0_pay1 (aVal m c j)
def bRnd (c : Dev nD) (d : Fin 2) : Vec F S768x768 .bf16 := k0_pay2 (bVal m c d)

/-- Device `c`'s partial product of chunk `(j, d)`. -/
def part (c j : Dev nD) (d : Fin 2) : Vec F S384x768 .bf16 := k0_pay4 (k0_pay3 (aRnd m c j) (bRnd m c d))

/-- A chunk as a slot's one entry. -/
def lift4 {α : Type} (x : S384x768.Idx → α) : S1x1x384x768.Idx → α := shapeCast S1x1x384x768 x (by decide)
def lift3 {α : Type} (x : S384x768.Idx → α) : S1x384x768.Idx → α := shapeCast S1x384x768 x (by decide)

/-- The sum of two chunks, its positive part, and a chunk at 32 bits. -/
def plus (x y : Vec F S384x768 .bf16) : Vec F S384x768 .bf16 := shapeCast S384x768 (addf x y) shapeCasts_S384x768_S384x768
def pos (x : Vec F S384x768 .bf16) : Vec F S384x768 .bf16 :=
  shapeCast S384x768 (maximumf x (broadcast S384x768 (Scalar.ofBits .bf16 0x0000#16))) shapeCasts_S384x768_S384x768
def wide (x : Vec F S384x768 .bf16) : Vec F S384x768 .f32 :=
  shapeCast S384x768 (extf .f32 x bitsLt_bf16_f32) shapeCasts_S384x768_S384x768

/-- The rows two chunks side by side make. -/
def rowOf {α : Type} (x y : S384x768.Idx → α) : S384x1536.Idx → α := fun i =>
  if h : (i 1).val < 768 then x (ix2 (i 0) ⟨(i 1).val, h⟩) else y (ix2 (i 0) ⟨(i 1).val - 768, Nat.sub_lt_left_of_lt_add (Nat.le_of_not_lt h) (i 1).isLt⟩)

/-- What the second reducing step sends on: two devices' partial products of the chunk the partner keeps a part of. -/
def sum1 (c : Dev nD) (d : Fin 2) : Vec F S384x768 .bf16 := plus (part m c (p2 d c) d) (part m (p1 d c) (p2 d c) d)
/-- The same two devices' partial products of `c`'s own chunk. -/
def sum0 (c : Dev nD) (d : Fin 2) : Vec F S384x768 .bf16 := plus (part m c c d) (part m (p1 d c) c d)
/-- Chunk `(c, d)` of the result, at 16 bits. -/
def red (c : Dev nD) (d : Fin 2) : Vec F S384x768 .bf16 := pos (plus (sum0 m c d) (sum1 m (p2 d c) d))

/-- Chunk `(j, d)` of the result. -/
def fin (j : Dev nD) (d : Fin 2) : Vec F S384x768 .f32 := wide (red m j d)

theorem cast_lift4 {α : Type} (x : S384x768.Idx → α) (h : S1x1x384x768.ShapeCasts S384x768) : shapeCast S384x768 (lift4 x) h = x :=
  shapeCast_shapeCast x _ _
theorem cast_lift3 {α : Type} (x : S384x768.Idx → α) (h : S1x384x768.ShapeCasts S384x768) : shapeCast S384x768 (lift3 x) h = x :=
  shapeCast_shapeCast x _ _

theorem plus_18 (x y : Vec F S384x768 .bf16) : k0_pay18 x (lift4 y) = plus x y := by unfold k0_pay18 plus; rw [cast_lift4]
theorem plus_19 (x y : Vec F S384x768 .bf16) : k0_pay19 x (lift4 y) = plus x y := by unfold k0_pay19 plus; rw [cast_lift4]
theorem plus_20 (x y : Vec F S384x768 .bf16) : k0_pay20 x (lift4 y) = plus x y := by unfold k0_pay20 plus; rw [cast_lift4]
theorem plus_22 (x y : Vec F S384x768 .bf16) : k0_pay22 (k0_pay21 x (lift4 y)) = plus x y := by unfold k0_pay22 k0_pay21 plus; rw [cast_lift4]
theorem pos_23 (x y : Vec F S384x768 .bf16) : k0_pay23 x (lift3 y) = pos (plus x y) := by
  unfold k0_pay23 pos plus; rw [cast_lift3, shapeCast_self (addf x y)]
theorem pos_26 (x y : Vec F S384x768 .bf16) : k0_pay26 (k0_pay24 x (lift3 y)) k0_pay25 = pos (plus x y) := by
  unfold k0_pay26 k0_pay24 k0_pay25 pos plus; rw [cast_lift3, shapeCast_self (addf x y)]
theorem wide_29 (x : Vec F S384x768 .bf16) : k0_pay29 (lift3 x) = wide x := by unfold k0_pay29 wide; rw [cast_lift3]
theorem wide_30 (x : Vec F S384x768 .bf16) : k0_pay30 (lift3 x) = wide x := by unfold k0_pay30 wide; rw [cast_lift3]
theorem wide_31 (x : Vec F S384x768 .bf16) : k0_pay31 (lift4 x) = wide x := by unfold k0_pay31 wide; rw [cast_lift4]
theorem wide_33 (x : Vec F S384x768 .bf16) : k0_pay33 (k0_pay32 (lift4 x)) = wide x := by unfold k0_pay33 k0_pay32 wide; rw [cast_lift4]
theorem wide_34 (x : Vec F S384x768 .bf16) : k0_pay34 (lift4 x) = wide x := by unfold k0_pay34 wide; rw [cast_lift4]
theorem wide_35 (x : Vec F S384x768 .bf16) : k0_pay35 (lift4 x) = wide x := by unfold k0_pay35 wide; rw [cast_lift4]

theorem wide_row (x y : Vec F S384x768 .bf16) : k0_pay28 (k0_pay27 (rowOf x y)) = rowOf (wide x) (wide y) := by
  unfold k0_pay28 k0_pay27 wide
  simp only [shapeCast_self]
  funext i
  unfold extf rowOf
  by_cases h : (i 1).val < 768
  · simp only [dif_pos h]
  · simp only [dif_neg h]

end Cert.AllReduce
end
-- ==== Proof.Schedule.lean ====
/-
The schedule: for every semaphore of every device, how much it is raised and what the raiser hands over with it, at its
first (and only) round. The kernel waits on every one of them exactly once.
-/
module

public import proofs.«01_k».proof.Proof.Contents

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, and the kernel's own (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The runtime's barrier semaphore. -/
abbrev barS : Sem sig := (SemArray.scalar (sig.barrier 0 rfl) : Sems sig S_).sem
abbrev barCell (c : Dev nD) : GSem nD τ sig := ((c : Thread nD τ), .reg barS)
abbrev cell (c : Dev nD) (k : Chan) : GSem nD τ sig := ((c : Thread nD τ), .dma k.sem)

/-- How much one transfer raises the semaphore by. -/
def amt : Chan → ℕ
  | .a _ => (aV 0).view.dmaCredit
  | .b _ => (bV 0).view.dmaCredit
  | .own => (oHr 0).view.dmaCredit
  | .wb _ _ => (oH 0 0).view.dmaCredit
  | _ => (acc 0 0).view.dmaCredit

theorem amt_pos (k : Chan) : 0 < amt k := by
  cases k <;> exact View.dmaCredit_pos _ (by decide)

/-- The row chunk whose partial product arrives in slot `(d, j)` at the first step, -/
def rcv (d j : Fin 2) (c : Dev nD) : Dev nD := if j = 0 then p2 d c else c
/-- the one that arrives finished in slot `(d, j)` at the last step, -/
def src (d j : Fin 2) (c : Dev nD) : Dev nD := if j = 0 then p1 d c else x2 c
/-- and the ones stored to the result in the order of their semaphores. -/
def tgt (d : Fin 2) (i : Fin 3) (c : Dev nD) : Dev nD := if i = 0 then p2 d c else if i = 1 then p1 d c else x2 c

/-- The device whose transfer raises the semaphore of an arrival on `c`. -/
def peer (c : Dev nD) : Chan → Dev nD
  | .s1r d _ => p1 d c
  | .s2r d => p2 d c
  | .g1r d => p2 d c
  | .g2r d _ => p1 d c
  | _ => c

theorem peer_peer (c : Dev nD) (k : Chan) : peer (peer c k) k = c := by
  cases k <;> simp only [peer, p1_p1, p2_p2]

/-! ## What is handed over -/

/-- A memref owned whole, whatever it holds. -/
def some' (c : Dev nD) {sp : Space} {sh : Shape} {e : EltTy} (M : Memref sig .tc sp sh e) : sProp 𝕄 :=
  iprop(∃ X, owns (c : Thread nD τ) M fullShare X)

instance some'_storable (c : Dev nD) {sp : Space} {sh : Shape} {e : EltTy} (M : Memref sig .tc sp sh e) :
    BI.Storable (upEmb : UEmb _ 𝕄) (some' (F := F) c M) := by unfold some'; infer_instance

/-- Device `n`'s slots for the partner that sends it column half `d` at the outer steps and half `e` at the middle ones. -/
def slots (n : Dev nD) (d e : Fin 2) : sProp 𝕄 :=
  iprop(some' n (s1B d 0) ∗ some' n (s1B d 1) ∗ some' n (s2B e) ∗ some' n (g1B e) ∗ some' n (g2B d 0) ∗ some' n (g2B d 1))

instance slots_storable (n : Dev nD) (d e : Fin 2) : BI.Storable (upEmb : UEmb _ 𝕄) (slots (F := F) n d e) := by
  unfold slots; infer_instance

/-- With its barrier signal a partner hands over its slots for `c`'s transfers. -/
def barPay (c : Dev nD) (b : Bool) : sProp 𝕄 := if b then slots (x1 c) 1 0 else slots (x3 c) 0 1

/-- With its transfer: a local copy, the destination holding the source's contents and the source; a send's own semaphore,
    the source's lent share; an arrival, the slot holding the sender's chunk. -/
def pay (c : Dev nD) : Chan → sProp 𝕄
  | .a j => iprop(owns (c : Thread nD τ) (aV j) fullShare (aVal m c j) ∗ owns (c : Thread nD τ) (aH j) fullShare (aVal m c j))
  | .b d => iprop(owns (c : Thread nD τ) (bV d) fullShare (bVal m c d) ∗ owns (c : Thread nD τ) (bH d) fullShare (bVal m c d))
  | .own => iprop(owns (c : Thread nD τ) (oHr c) fullShare (rowOf (fin m c 0) (fin m c 1)) ∗ owns (c : Thread nD τ) (oVr c) fullShare (rowOf (fin m c 0) (fin m c 1)))
  | .wb d i => iprop(owns (c : Thread nD τ) (oH (tgt d i c) d) fullShare (fin m (tgt d i c) d) ∗ owns (c : Thread nD τ) (oV (tgt d i c) d) fullShare (fin m (tgt d i c) d))
  | .s1s d j => owns (c : Thread nD τ) (acc (rcv d j (p1 d c)) d) fullShare (part m c (rcv d j (p1 d c)) d)
  | .s1r d j => owns (c : Thread nD τ) (s1B d j) fullShare (part m (p1 d c) (rcv d j c) d)
  | .s2s d => owns (c : Thread nD τ) (acc (p2 d c) d) fullShare (sum1 m c d)
  | .s2r d => owns (c : Thread nD τ) (s2B d) fullShare (sum1 m (p2 d c) d)
  | .g1s d => owns (c : Thread nD τ) (acc c d) fullShare.left (red m c d)
  | .g1r d => owns (c : Thread nD τ) (g1B d) fullShare (red m (p2 d c) d)
  | .g2s d j => if j = 0 then owns (c : Thread nD τ) (acc c d) fullShare.right.left (red m c d)
      else owns (c : Thread nD τ) (g1B d) fullShare.left (red m (p2 d c) d)
  | .g2r d j => owns (c : Thread nD τ) (g2B d j) fullShare (red m (src d j c) d)

instance pay_storable (c : Dev nD) (k : Chan) : BI.Storable (upEmb : UEmb _ 𝕄) (pay m c k) := by
  cases k <;> dsimp only [pay] <;> (try split) <;> infer_instance

/-! ## The schedule -/

/-- One round: a barrier cell has two duties of one unit (`false` from `x3`, `true` from `x1`), a DMA cell the duty
    `false` of its transfer's amount. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amt (chan q)
  payload g _ d := match g.2 with | .reg _ => barPay g.1.1 d | .dma q => pay m g.1.1 (chan q)
  amount_pos g _ _ _ := by
    rcases g with ⟨t, q | q⟩
    · exact Nat.one_pos
    · exact amt_pos _

instance sched_payload_storable (g : GSem nD τ sig) (r : ℕ) (d : Bool) :
    BI.Storable (upEmb : UEmb _ 𝕄) ((sched m).payload g r d) := by
  rcases g with ⟨t, q | q⟩
  · show BI.Storable upEmb (barPay t.1 d)
    unfold barPay; split <;> infer_instance
  · show BI.Storable upEmb (pay m t.1 (chan q))
    infer_instance

section Sched
variable (c : Dev nD) (k : Chan)

theorem duties_bar : (sched m).duties (barCell c) 0 = Finset.univ := by
  dsimp only [sched]; exact if_pos ⟨rfl, rfl⟩
theorem duties_cell : (sched m).duties (cell c k) 0 = {false} := by
  dsimp only [sched]; exact if_pos ⟨rfl, rfl⟩
theorem duties_later (g : GSem nD τ sig) : ∀ r, 1 ≤ r → (sched m).duties g r = ∅ :=
  fun r hr => if_neg fun h => absurd h.1 (by omega)

theorem amount_bar (d : Bool) : (sched m).amount (barCell c) 0 d = 1 := rfl
theorem amount_cell (d : Bool) : (sched m).amount (cell c k) 0 d = amt k := by
  show amt (chan k.sem) = amt k
  rw [chan_sem]

theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_cell : (sched m).expect (cell c k) 0 = amt k := by
  unfold Schedule.expect Schedule.amountOf; rw [duties_cell, Finset.sum_singleton, amount_cell]

theorem payload_bar (d : Bool) : (sched m).payload (barCell c) 0 d = barPay c d := rfl
theorem payload_cell (d : Bool) : (sched m).payload (cell c k) 0 d = pay m c k := by
  show pay m c (chan k.sem) = pay m c k
  rw [chan_sem]

/-- A wait takes the whole round: both partners' slots, -/
theorem rest_bar : bigSep ((sched m).duties (barCell c) 0 \ ∅) (fun d => (sched m).payload (barCell c) 0 d)
    = iprop(slots (x3 c) 0 1 ∗ slots (x1 c) 1 0) := by
  rw [Finset.sdiff_empty, duties_bar, bigSep_univ_eq_bigSepL [false, true] (by decide) (by decide), bigSepL_cons_cons, bigSepL_singleton]
  rfl
/-- or the transfer's payload. -/
theorem rest_cell : bigSep ((sched m).duties (cell c k) 0 \ ∅) (fun d => (sched m).payload (cell c k) 0 d) = pay m c k := by
  rw [Finset.sdiff_empty, duties_cell, bigSep_singleton, payload_cell]

end Sched

/-! ## What each device owes; the levels -/

/-- The arrivals a device owes its partners, in the order it sends them. -/
def sends : List Chan :=
  [.s1r 0 0, .s1r 1 0, .s1r 0 1, .s1r 1 1, .s2r 0, .s2r 1, .g1r 0, .g2r 0 0, .g1r 1, .g2r 1 0, .g2r 0 1, .g2r 1 1]

/-- What device `c` owes while the arrivals `l` are still to be sent. -/
def owe (c : Dev nD) : List Chan → CellTallies nD τ sig Unit
  | [] => 0
  | k :: l => owe c l + tallyAt (cell (peer c k) k) () (amt k)

/-- At launch it owes its two barrier signals besides. -/
def O₀ (c : Dev nD) : CellTallies nD τ sig Unit :=
  owe c sends + tallyAt (barCell (x1 c)) () 1 + tallyAt (barCell (x3 c)) () 1

/-- The order the semaphores are waited on in: local copies and sends before everything, then the barrier and the four steps. -/
def lev : Chan → ℕ
  | .s1r _ _ => 2
  | .s2r _ => 3
  | .g1r _ => 4
  | .g2r _ _ => 5
  | _ => 0

def L (g : GSem nD τ sig) : Finset Unit := if g.1.2 = .tc then {()} else ∅
def lv (g : GSem nD τ sig) (_ : Unit) : ℕ := match g.2 with | .reg _ => 1 | .dma q => lev (chan q)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Chan) (u : Unit) : lv (cell c k) u = lev k := by
  show lev (chan k.sem) = lev k
  rw [chan_sem]

theorem owe_pos {c : Dev nD} {g : GSem nD τ sig} {u : Unit} : ∀ {l : List Chan}, 0 < owe c l g u → ∃ k ∈ l, g = cell (peer c k) k
  | [], h => absurd h (Nat.lt_irrefl 0)
  | k :: l, h => by
    unfold owe at h
    rw [Pi.add_apply, Finsupp.add_apply, tallyAt_apply] at h
    by_cases hg : g = cell (peer c k) k ∧ u = ()
    · exact ⟨k, List.mem_cons_self, hg.1⟩
    · rw [if_neg hg, Nat.add_zero] at h
      obtain ⟨k', hk', e⟩ := owe_pos h
      exact ⟨k', List.mem_cons_of_mem _ hk', e⟩

/-- A device may wait at a level below those of all the arrivals it still owes. -/
theorem mayWait_owe (c : Dev nD) (sm : SemLoc sig) (n : ℕ) (l : List Chan) (hn : lv ((c : Thread nD τ), sm) () = n)
    (hl : ∀ k ∈ l, n < lev k) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨k, -, rfl⟩ := owe_pos hg; rw [L_tc]; exact Finset.mem_singleton_self _)
    (fun p hp => by rw [Finset.mem_singleton.mp hp]; exact hn.le)
    (fun g u hg => by obtain ⟨k, hk, rfl⟩ := owe_pos hg; rw [lv_cell]; exact hl k hk)

theorem mayWait_cell (c : Dev nD) (k : Chan) (n : ℕ) (l : List Chan) (hn : lev k = n) (hl : ∀ k' ∈ l, n < lev k') :
    (levAts L lv : sProp 𝕄) ⊢ MayWait (c : Thread nD τ) (.dma k.sem) () (owe c l) :=
  mayWait_owe c _ n l ((lv_cell c k ()).trans hn) hl

end Cert.AllReduce
end
-- ==== Proof.Steps.lean ====
/-
One rule per kind of operation the kernel performs, over chunks owned at known contents: a load, a store, a local copy,
a send, a wait. Each takes the places the kernel computed as equal to the named ones.
-/
module

public import proofs.«01_k».proof.Proof.Schedule

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`. -/
abbrev wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Ghost state -/

/-- Every semaphore of every device is a cell of the schedule. -/
abbrev kcell (ck : Dev nD × SemLoc sig) : GSem nD τ sig := ((ck.1 : Thread nD τ), ck.2)

/-- What every device knows: the cells' invariants, that every cell is at its first round, and the levels. -/
def ctx (K : Dev nD × SemLoc sig → ℕ) : sProp 𝕄 :=
  iprop((bigSep Finset.univ fun ck : Dev nD × SemLoc sig => cellInv ER (sched m) (K ck) (kcell ck))
    ∗ (bigSep Finset.univ fun ck : Dev nD × SemLoc sig => reached ER (kcell ck) 0) ∗ levAts L lv)

instance ctx_persistent (K : Dev nD × SemLoc sig → ℕ) : BI.Persistent (ctx m K) := by unfold ctx; infer_instance

variable (K : Dev nD × SemLoc sig → ℕ)

theorem ctx_inv (ck : Dev nD × SemLoc sig) : ctx m K ⊢ cellInv ER (sched m) (K ck) (kcell ck) := by
  unfold ctx
  exact sep_elim_left.trans (bigSep_elim (Finset.mem_univ ck))
theorem ctx_reached (ck : Dev nD × SemLoc sig) : ctx m K ⊢ reached ER (kcell ck) 0 := by
  unfold ctx
  exact sep_elim_right.trans (sep_elim_left.trans (bigSep_elim (Finset.mem_univ ck)))
theorem ctx_lev : ctx m K ⊢ (levAts L lv : sProp 𝕄) := by
  unfold ctx
  iintro ⟨-, -, H⟩
  iexact H

/-- The right to pay the transfer's duty on device `c`'s cell. -/
abbrev tok (c : Dev nD) (k : Chan) : sProp 𝕄 := dutyTok ER (cell c k) 0 false
/-- A cell of a device before its transfer is started, the right to start it with; -/
def ready (c : Dev nD) (k : Chan) : sProp 𝕄 := iprop(atPos ER (cell c k) 0 ∅ 0 ∗ tok c k)
/-- and when the transfer is under way (or is a partner's to start). -/
def pend (c : Dev nD) (k : Chan) : sProp 𝕄 := iprop(atPos ER (cell c k) 0 ∅ 0 ∗ cred (tallyAt (cell c k) () (amt k)))
/-- What the device owes, whatever it has waited for. -/
def owing (c : Dev nD) (l : List Chan) : sProp 𝕄 := iprop(∃ W, owes (c : Thread nD τ) (owe c l) W)
/-- A cell after its wait: closed, its semaphore at zero. -/
abbrev shut (c : Dev nD) (k : Chan) : sProp 𝕄 := semVal (cell c k) 0

/-- A cell after its wait, with what the transfer handed over. -/
def past (c : Dev nD) (k : Chan) : sProp 𝕄 := iprop(pay m c k ∗ shut c k)

theorem to_past (c : Dev nD) (k : Chan) {P : sProp 𝕄} (hp : pay m c k = P) : P ⊢ iprop(shut c k -∗ past m c k) := by
  subst hp
  unfold past
  iintro HP HS
  iframe

/-! ## Rules -/

section Rules
variable (c : Dev nD) {α : Type} {Q : α → sProp (MT nD τ sig Unit (Elt F) ℕ UU ℕ)} {sh : Shape} {e : EltTy}

theorem load_step {M : Memref sig .tc .vmem sh e} {off off' size : Fin sh.rank → ℕ} (h : off = off')
    {inb : ∀ a, off a + size a ≤ sh.size a} {inb' : ∀ a, off' a + size a ≤ sh.size a}
    {hl : M.view.LoadsAt (Rect.unit off size inb).toLoadRect}
    {k : ((Rect.unit off size inb).shape.Idx → Elt F e) → Prog (TpuEff nD τ sig (Elt F) Λ₀ .tc) α}
    {q : PosShare TreeShare} {X : (⟨sh.rank, size⟩ : Shape).Idx → Elt F e} :
    owns (c : Thread nD τ) (M.slice (Rect.unit off' size inb') (fun _ => rfl)) q X
      ⊢ iprop((owns (c : Thread nD τ) (M.slice (Rect.unit off' size inb') (fun _ => rfl)) q X -∗ wpD c (k X) Q)
        -∗ wpD c (.op (.load M (Rect.unit off size inb).toLoadRect hl) k) Q) := by
  subst h
  unfold owns
  iintro ⟨%f, %hf, H⟩ Hk
  iapply (wp_load_rect 𝒱₀ (c : Thread nD τ) none Set.univ (m := M) (r := Rect.unit off size inb) (Finset.Subset.refl _)) $$ H
  iintro H
  rw [show (M.access (Rect.unit off size inb)).read (Elt F) f = X from hf]
  iapply Hk
  iexists f
  isplitr; · ipureintro; exact hf
  iexact H

theorem store_step {M : Memref sig .tc .vmem sh e} {off off' size : Fin sh.rank → ℕ} (h : off = off')
    {inb : ∀ a, off a + size a ≤ sh.size a} {inb' : ∀ a, off' a + size a ≤ sh.size a}
    {w : (Rect.unit off size inb).shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ₀ .tc) α} {X : (⟨sh.rank, size⟩ : Shape).Idx → Elt F e} :
    owns (c : Thread nD τ) (M.slice (Rect.unit off' size inb') (fun _ => rfl)) fullShare X
      ⊢ iprop((owns (c : Thread nD τ) (M.slice (Rect.unit off' size inb') (fun _ => rfl)) fullShare w -∗ wpD c (k ⟨⟩) Q)
        -∗ wpD c (.op (.store M (Rect.unit off size inb) w Finset.univ hx hm) k) Q) := by
  subst h
  unfold owns
  iintro ⟨%f, %hf, H⟩ Hk
  iapply (wp_store 𝒱₀ (c : Thread nD τ) none Set.univ (m := M) (r := Rect.unit off size inb) (Mk := Finset.univ)
    (S := (M.access (Rect.unit off size inb)).set) (Finset.Subset.refl _)) $$ H
  iintro H
  iapply Hk
  iexists ((M.access (Rect.unit off size inb)).write (Elt F) f w Finset.univ)
  isplitr; · ipureintro; exact View.read_write_univ _ _
  iexact H

theorem owns_some {sp : Space} {M : Memref sig .tc sp sh e} {X : sh.Idx → Elt F e} :
    (owns (c : Thread nD τ) M fullShare X : sProp 𝕄) ⊢ some' c M := by
  unfold some'
  iintro H
  iexists X
  iexact H

theorem load_some_step {M : Memref sig .tc .vmem sh e} {off off' size : Fin sh.rank → ℕ} (h : off = off')
    {inb : ∀ a, off a + size a ≤ sh.size a} {inb' : ∀ a, off' a + size a ≤ sh.size a}
    {hl : M.view.LoadsAt (Rect.unit off size inb).toLoadRect}
    {k : ((Rect.unit off size inb).shape.Idx → Elt F e) → Prog (TpuEff nD τ sig (Elt F) Λ₀ .tc) α} :
    some' c (M.slice (Rect.unit off' size inb') (fun _ => rfl))
      ⊢ iprop((∀ X, some' c (M.slice (Rect.unit off' size inb') (fun _ => rfl)) -∗ wpD c (k X) Q)
        -∗ wpD c (.op (.load M (Rect.unit off size inb).toLoadRect hl) k) Q) := by
  unfold some'
  iintro ⟨%X, H⟩ Hk
  iapply (load_step c h) $$ H
  iintro H
  iapply Hk
  iexists X
  iexact H

theorem store_some_step {M : Memref sig .tc .vmem sh e} {off off' size : Fin sh.rank → ℕ} (h : off = off')
    {inb : ∀ a, off a + size a ≤ sh.size a} {inb' : ∀ a, off' a + size a ≤ sh.size a}
    {w : (Rect.unit off size inb).shape.Idx → Elt F e} (w' : (Rect.unit off size inb).shape.Idx → Elt F e) (hw : w = w')
    {hx : (M.access (Rect.unit off size inb)).Stores Finset.univ} {hm : Finset.univ = Finset.univ ∨ ∀ a, (Rect.unit off size inb).stride a = 1}
    {k : PUnit → Prog (TpuEff nD τ sig (Elt F) Λ₀ .tc) α} :
    some' c (M.slice (Rect.unit off' size inb') (fun _ => rfl))
      ⊢ iprop((owns (c : Thread nD τ) (M.slice (Rect.unit off' size inb') (fun _ => rfl)) fullShare w' -∗ wpD c (k ⟨⟩) Q)
        -∗ wpD c (.op (.store M (Rect.unit off size inb) w Finset.univ hx hm) k) Q) := by
  subst hw
  unfold some'
  iintro ⟨%X, H⟩ Hk
  iapply (store_step c h) $$ H
  iexact Hk

/-- A store, which the kernel always precedes by a load of the place it stores to. -/
theorem put_step {M : Memref sig .tc .vmem sh e} {off off' size : Fin sh.rank → ℕ} (h : off = off')
    {inb : ∀ a, off a + size a ≤ sh.size a} {inb' : ∀ a, off' a + size a ≤ sh.size a}
    {hl : M.view.LoadsAt (Rect.unit off size inb).toLoadRect}
    {w : (Rect.unit off size inb).shape.Idx → Elt F e} (w' : (Rect.unit off size inb).shape.Idx → Elt F e) (hw : w = w')
    {hx : (M.access (Rect.unit off size inb)).Stores Finset.univ} {hm : Finset.univ = Finset.univ ∨ ∀ a, (Rect.unit off size inb).stride a = 1}
    {k : PUnit → Prog (TpuEff nD τ sig (Elt F) Λ₀ .tc) α} :
    some' c (M.slice (Rect.unit off' size inb') (fun _ => rfl))
      ⊢ iprop((owns (c : Thread nD τ) (M.slice (Rect.unit off' size inb') (fun _ => rfl)) fullShare w' -∗ wpD c (k ⟨⟩) Q)
        -∗ wpD c (.op (.load M (Rect.unit off size inb).toLoadRect hl) fun _ =>
            .op (.store M (Rect.unit off size inb) w Finset.univ hx hm) k) Q) := by
  iintro H Hk
  iapply (load_some_step c h) $$ H
  iintro %X H
  iapply (store_some_step c h w' hw) $$ H
  iexact Hk

/-- Owning a memref squeezed is owning it at its own shape. -/
theorem owns_squeezed {sp : Space} {s' : Shape} (M : Memref sig .tc sp sh e) (h : sh.Squeezes s') (hc : s'.ShapeCasts sh)
    (q : PosShare TreeShare) (X : s'.Idx → Elt F e) :
    (owns (c : Thread nD τ) (M.squeeze s' h) q X : sProp 𝕄) ⊣⊢ owns (c : Thread nD τ) M q (shapeCast sh X hc) := by
  have hset : (M.squeeze s' h).view.set = M.view.set := View.set_reshape _ _
  have hread : ∀ f : Buf (Elt F) (M.view.loc (c : Thread nD τ)), (M.squeeze s' h).view.read (Elt F) f = X ↔ M.view.read (Elt F) f = shapeCast sh X hc := by
    intro f
    constructor
    · intro hf
      rw [← hf]
      exact (shapeCast_shapeCast (M.view.read (Elt F) f) (h.numel_eq) hc).symm
    · intro hf
      refine Eq.trans (show _ = shapeCast s' (M.view.read (Elt F) f) (h.numel_eq) from rfl) ?_
      rw [hf]
      exact shapeCast_shapeCast X hc (h.numel_eq)
  constructor
  · unfold owns
    iintro ⟨%f, %hf, H⟩
    iexists f
    isplitr; · ipureintro; exact (hread f).mp hf
    iapply (Entails.of_eq (congrArg (fun S => (M.view.loc (c : Thread nD τ) ↦[S]{q} f : sProp 𝕄)) hset))
    iexact H
  · unfold owns
    iintro ⟨%f, %hf, H⟩
    iexists f
    isplitr; · ipureintro; exact (hread f).mpr hf
    iapply (Entails.of_eq (congrArg (fun S => (M.view.loc (c : Thread nD τ) ↦[S]{q} f : sProp 𝕄)) hset.symm))
    iexact H

/-- The load of a squeezed slot reads the chunk it holds. -/
theorem load_slot_step {s' : Shape} {M : Memref sig .tc .vmem sh e} {off size : Fin sh.rank → ℕ}
    {inb : ∀ a, off a + size a ≤ sh.size a} {inb' : ∀ a, off a + size a ≤ sh.size a}
    {hl : M.view.LoadsAt (Rect.unit off size inb).toLoadRect} {h : (⟨sh.rank, size⟩ : Shape).Squeezes s'}
    (hc : s'.ShapeCasts ⟨sh.rank, size⟩)
    {k : ((Rect.unit off size inb).shape.Idx → Elt F e) → Prog (TpuEff nD τ sig (Elt F) Λ₀ .tc) α}
    {q : PosShare TreeShare} {X : s'.Idx → Elt F e} (Y : (⟨sh.rank, size⟩ : Shape).Idx → Elt F e) (hY : shapeCast ⟨sh.rank, size⟩ X hc = Y) :
    owns (c : Thread nD τ) ((M.slice (Rect.unit off size inb') (fun _ => rfl)).squeeze s' h) q X
      ⊢ iprop((owns (c : Thread nD τ) ((M.slice (Rect.unit off size inb') (fun _ => rfl)).squeeze s' h) q X
          -∗ wpD c (k Y) Q)
        -∗ wpD c (.op (.load M (Rect.unit off size inb).toLoadRect hl) k) Q) := by
  subst hY
  iintro H Hk
  ihave H := (owns_squeezed c (M.slice (Rect.unit off size inb') (fun _ => rfl)) h hc q X).1 $$ H
  iapply (load_step c rfl) $$ H
  iintro H
  iapply Hk
  iapply (owns_squeezed c (M.slice (Rect.unit off size inb') (fun _ => rfl)) h hc q X).2
  iexact H

theorem owns_fold {p : Thread nD τ} {sp : Space} {M : Memref sig p.2.kind sp sh e} {q : PosShare TreeShare} {X : sh.Idx → Elt F e}
    {f : Buf (Elt F) (M.view.loc p)} (hf : M.view.read (Elt F) f = X) :
    (M.view.loc p ↦[M.view.set]{q} f : sProp 𝕄) ⊢ owns p M q X := by
  unfold owns
  iintro H
  iexists f
  isplitr; · ipureintro; exact hf
  iexact H

theorem owns_fold_write {p : Thread nD τ} {sp : Space} {M : Memref sig p.2.kind sp sh e} {X Y : sh.Idx → Elt F e}
    {f : Buf (Elt F) (M.view.loc p)} (hf : Y = X) :
    (M.view.loc p ↦[M.view.set]{fullShare} (M.view.write (Elt F) f Y Finset.univ) : sProp 𝕄) ⊢ owns p M fullShare X :=
  owns_fold ((View.read_write_univ f Y).trans hf)

/-- A local copy started: the destination's old contents are whatever they are. -/
theorem copy_step (k : Chan) {sp sp' : Space} (src : Memref sig .tc sp sh e) (dst : Memref sig .tc sp' sh e)
    {src' : Memref sig .tc sp sh e} {dst' : Memref sig .tc sp' sh e} {sem : DmaSem sig}
    (hs : src' = src) (hd : dst' = dst) (hsem : sem = k.sem) (hN : dst.view.dmaCredit = amt k)
    {q : PosShare TreeShare} {X : sh.Idx → Elt F e}
    (hpay : iprop(owns (c : Thread nD τ) dst fullShare X ∗ owns (c : Thread nD τ) src q X) ⊢ pay m c k)
    {hsrc : src'.view.WordExact} {hdst : dst'.view.WordExact} {hty : DmaTarget.Typed (nD := nD) (p := (c : Thread nD τ).2) sp (.dma sem) (.here dst')}
    {kont : PUnit → Prog (TpuEff nD τ sig (Elt F) Λ₀ .tc) α} :
    ctx m K ⊢ iprop(owns (c : Thread nD τ) src q X -∗ some' c dst -∗ ready c k
      -∗ (pend c k -∗ wpD c (kont ⟨⟩) Q)
        -∗ wpD c (.op (.enqueueDma src' (.here dst') (.dma sem) hsrc hdst hty) kont) Q) := by
  subst hs hd hsem
  unfold some' ready owns
  iintro #HC ⟨%f, %hf, Hs⟩ ⟨%Y, %g, -, Hd⟩ ⟨Hat, Htok⟩ Hk
  iapply (Rounds.wp_copy_pointsTo 𝒱₀ ER (sched m) (c : Thread nD τ) none (src := src') (dst := dst') (q := q) (κ := K (c, .dma k.sem)) (r := 0) (d := false) (fd := g) (fs := f)
    (by rw [duties_cell]; exact Finset.mem_singleton_self _) () (amt k) (show View.amount _ (SemLoc.dma k.sem) = amt k from hN) (amount_cell m c k false)
    (by
      rw [payload_cell]
      exact BIBase.Entails.trans (BIClass.sep_mono (owns_fold_write hf) (owns_fold hf)) hpay)) $$ [Hs Hd Htok]
  · isplitr; · iapply (ctx_inv m K (c, .dma k.sem)); iexact HC
    isplitl [Hs]; · iexact Hs
    isplitl [Hd]; · iexact Hd
    isplitl [Htok]; · iexact Htok
    iapply (ctx_reached m K (c, .dma k.sem)); iexact HC
  iintro Hc
  iapply Hk
  unfold pend
  isplitl [Hat] <;> iassumption

/-- A send started: the partner's slot is taken, the arrival no longer owed. -/
theorem send_step (ks kr : Chan) (n : Dev nD) (l₀ l : List Chan) {sp sp' : Space} (src : Memref sig .tc sp sh e) (dst : Memref sig .tc sp' sh e)
    {n' : Dev nD} {src' : Memref sig .tc sp sh e} {dst' : Memref sig .tc sp' sh e}
    {semS semR : DmaSem sig} (hp : peer c kr = n) (hl : l₀ = kr :: l) (hn : n' = n) (hs : src' = src) (hd : dst' = dst) (hS : semS = ks.sem) (hR : semR = kr.sem)
    (hN : dst.view.dmaCredit = amt kr) (hNs : amt ks = amt kr)
    {q : PosShare TreeShare} {X : sh.Idx → Elt F e}
    (hpay₁ : owns (c : Thread nD τ) src q X ⊢ pay m c ks)
    (hpay₂ : owns (n : Thread nD τ) dst fullShare X ⊢ pay m n kr)
    {hsc : (dst' : Memref sig (Dev.tc n' : Thread nD τ).2.kind sp' sh e).view.ref.isScScratch = false}
    {hsrc : src'.view.WordExact} {hdst : (dst' : Memref sig (Dev.tc n' : Thread nD τ).2.kind sp' sh e).view.WordExact}
    {hty : DmaTarget.Typed sp (.dma semR) (.remote (Dev.tc n' : Thread nD τ) (dst' : Memref sig (Dev.tc n' : Thread nD τ).2.kind sp' sh e) (.dma semS) hsc)}
    {kont : PUnit → Prog (TpuEff nD τ sig (Elt F) Λ₀ .tc) α} :
    ctx m K ⊢ iprop(owns (c : Thread nD τ) src q X -∗ some' n dst -∗ ready c ks -∗ tok n kr -∗ owing c l₀
      -∗ ((pend c ks ∗ owing c l) -∗ wpD c (kont ⟨⟩) Q)
        -∗ wpD c (.op (.enqueueDma src' (.remote (Dev.tc n' : Thread nD τ) (dst' : Memref sig (Dev.tc n' : Thread nD τ).2.kind sp' sh e) (.dma semS) hsc) (.dma semR) hsrc hdst hty) kont) Q) := by
  subst hp hl hn hs hd hS hR
  unfold some' ready owing owns
  iintro #HC ⟨%f, %hf, Hs⟩ ⟨%Y, %g, -, Hd⟩ ⟨Hat, HtS⟩ HtR ⟨%W, HO⟩ Hk
  iapply (Rounds.wp_send_pointsTo 𝒱₀ ER (sched m) (c : Thread nD τ) none (c' := (peer c kr : Thread nD τ)) (src := src') (dst := dst') (q := q) (κ₁ := K (c, .dma ks.sem)) (κ₂ := K (peer c kr, .dma kr.sem))
    (r₁ := 0) (r₂ := 0) (d₁ := false) (d₂ := false) (fs := f) (fd := g)
    (by rw [duties_cell]; exact Finset.mem_singleton_self _) (by rw [duties_cell]; exact Finset.mem_singleton_self _)
    () () (amt kr) (show View.amount _ (SemLoc.dma kr.sem) = amt kr from hN) ((amount_cell m c ks false).trans hNs) (amount_cell m (peer c kr) kr false) (owe c l) rfl (W := W)
    (by rw [payload_cell]; exact (owns_fold hf).trans hpay₁)
    (by rw [payload_cell]; exact (owns_fold_write hf).trans hpay₂)) $$ [Hs Hd HtS HtR HO]
  · isplitr; · iapply (ctx_inv m K (c, .dma ks.sem)); iexact HC
    isplitr; · iapply (ctx_inv m K (peer c kr, .dma kr.sem)); iexact HC
    isplitl [Hs]; · iexact Hs
    isplitl [Hd]; · iexact Hd
    isplitl [HO]; · iexact HO
    isplitl [HtS]; · iexact HtS
    isplitr; · iapply (ctx_reached m K (c, .dma ks.sem)); iexact HC
    isplitl [HtR]; · iexact HtR
    iapply (ctx_reached m K (peer c kr, .dma kr.sem)); iexact HC
  iintro ⟨Hc, HO⟩
  iapply Hk
  unfold pend
  isplitl [Hat Hc]
  · isplitl [Hat]; · iexact Hat
    rw [hNs]; iexact Hc
  iexists W; iexact HO

/-- A wait: what the transfer hands over, and the semaphore at zero for good. -/
theorem wait_step (k : Chan) (l : List Chan) (n : ℕ) (hn : lev k = n) (hl : ∀ k' ∈ l, n < lev k') {P : sProp (MT nD τ sig Unit (Elt F) ℕ UU ℕ)}
    (hp : pay m c k = P) {sp sp' : Space}
    {s₁ s₂ : Shape} {e₁ e₂ : EltTy} {src : Memref sig .tc sp s₁ e₁} {dst : Memref sig .tc sp' s₂ e₂} {sem : DmaSem sig}
    (hsem : sem = k.sem) (hN : dst.view.dmaCredit = amt k)
    {hsrc : src.view.WordExact} {hdst : dst.view.WordExact}
    {kont : PUnit → Prog (TpuEff nD τ sig (Elt F) Λ₀ .tc) α} :
    ctx m K ⊢ iprop(pend c k -∗ owing c l
      -∗ ((P ∗ shut c k ∗ owing c l) -∗ wpD c (kont ⟨⟩) Q)
        -∗ wpD c (.op (.waitDma2 sem src dst hsrc hdst) kont) Q) := by
  subst hsem hp
  unfold pend owing
  iintro #HC ⟨Hat, Hc⟩ ⟨%W, HO⟩ Hk
  iapply (Rounds.wp_wait_rest_token 𝒱₀ ER (sched m) (c : Thread nD τ) none (κ := K (c, .dma k.sem))
    (wpE_waitDma2_eq 𝒱₀ (c : Thread nD τ) none Set.univ) (Set.mem_univ _) () (O := owe c l) (W := W) (R := 0) (m := 0) (T := ∅)
    (by rw [Nat.zero_add, expect_cell]; exact hN)) $$ [Hat Hc HO]
  · isplitr; · iapply (ctx_inv m K (c, .dma k.sem)); iexact HC
    isplitl [Hc]; · rw [hN]; iexact Hc
    isplitl [HO]; · iexact HO
    isplitr; · iapply (mayWait_cell c k n l hn hl); iapply (ctx_lev m K); iexact HC
    iexact Hat
  iintro ⟨HO, Hat, -, Hp⟩
  ihave Hp := (Entails.of_eq (rest_cell m c k)) $$ Hp
  imod (Rounds.cell_close ER (sched m) (Set.mem_univ (K (c, .dma k.sem))) (fun h => h) (R := 0 + 1) (duties_later m (cell c k))) $$ [Hat] with Hz
  · isplitr; · iapply (ctx_inv m K (c, .dma k.sem)); iexact HC
    iexact Hat
  iapply Hk
  isplitl [Hp]; · iexact Hp
  isplitl [Hz]; · iexact Hz
  iexists _; iexact HO

/-- The barrier signal: a partner gets this device's slots. -/
theorem signal_step {n n' : Dev nD} (hn : n' = n) (b : Bool) {O O' : CellTallies nD τ sig Unit} {W : Waits sig Unit}
    (hO : O' = O + tallyAt (barCell n) () 1) {kont : PUnit → Prog (TpuEff nD τ sig (Elt F) Λ₀ .tc) α} :
    ctx m K ⊢ iprop(owes (c : Thread nD τ) O' W -∗ dutyTok ER (barCell n) 0 b -∗ barPay n b
      -∗ (owes (c : Thread nD τ) O W -∗ wpD c (kont ⟨⟩) Q)
        -∗ wpD c (.op (.semSignal (Dev.tc n' : Thread nD τ) barS 1) kont) Q) := by
  subst hn
  iintro #HC HO Htok Hpay Hk
  iapply (Rounds.wp_signal 𝒱₀ ER (sched m) (c : Thread nD τ) none (dst := (n' : Thread nD τ)) (κ := K (n', .reg barS)) (d := b) (r := 0)
    (by rw [duties_bar]; exact Finset.mem_univ _) (amount_bar m n' b) () O hO) $$ [HO Htok Hpay]
  · isplitr; · iapply (ctx_inv m K (n', .reg barS)); iexact HC
    isplitl [HO]; · iexact HO
    isplitl [Htok]; · iexact Htok
    isplitl [Hpay]; · rw [payload_bar]; iexact Hpay
    iapply (ctx_reached m K (n', .reg barS)); iexact HC
  iexact Hk

/-- The barrier's wait: both partners' slots. -/
theorem barrier_step {W : Waits sig Unit} {kont : PUnit → Prog (TpuEff nD τ sig (Elt F) Λ₀ .tc) α} :
    ctx m K ⊢ iprop(cred (tallyAt (barCell c) () 2) -∗ owes (c : Thread nD τ) (owe c sends) W -∗ atPos ER (barCell c) 0 ∅ 0
      -∗ ((slots (x3 c) 0 1 ∗ slots (x1 c) 1 0 ∗ semVal (barCell c) 0 ∗ owing c sends) -∗ wpD c (kont ⟨⟩) Q)
        -∗ wpD c (.op (.semWait barS 2) kont) Q) := by
  iintro #HC Hc HO Hat Hk
  iapply (Rounds.wp_wait_rest_token 𝒱₀ ER (sched m) (c : Thread nD τ) none (κ := K (c, .reg barS))
    (wpE_semWait_eq 𝒱₀ (c : Thread nD τ) none Set.univ) (Set.mem_univ _) () (O := owe c sends) (W := W) (R := 0) (m := 0) (T := ∅)
    (by rw [Nat.zero_add, expect_bar])) $$ [Hat Hc HO]
  · isplitr; · iapply (ctx_inv m K (c, .reg barS)); iexact HC
    isplitl [Hc]; · iexact Hc
    isplitl [HO]; · iexact HO
    isplitr; · iapply (mayWait_owe c (.reg barS) 1 sends rfl (by decide)); iapply (ctx_lev m K); iexact HC
    iexact Hat
  iintro ⟨HO, Hat, -, Hp⟩
  ihave Hp := (Entails.of_eq (rest_bar m c)) $$ Hp
  icases Hp with ⟨H3, H1⟩
  imod (Rounds.cell_close ER (sched m) (Set.mem_univ (K (c, .reg barS))) (fun h => h) (R := 0 + 1) (duties_later m (barCell c))) $$ [Hat] with Hz
  · isplitr; · iapply (ctx_inv m K (c, .reg barS)); iexact HC
    iexact Hat
  iapply Hk
  unfold owing
  isplitl [H3]; · iexact H3
  isplitl [H1]; · iexact H1
  isplitl [Hz]; · iexact Hz
  iexists _; iexact HO

end Rules

theorem ret_step (c : Dev nD) {α : Type} {Q : α → sProp (MT nD τ sig Unit (Elt F) ℕ UU ℕ)} (x : α) : Q x ⊢ wpD c (Prog.ret x) Q := by
  unfold wpD
  rw [wp_ret]
  iintro H
  imodintro
  iexact H

/-- A slice at the same place. -/
theorem slice_congr {sp : Space} {sh : Shape} {e : EltTy} {M : Memref sig .tc sp sh e} {off off' size : Fin sh.rank → ℕ} (h : off = off')
    {inb : ∀ a, off a + size a ≤ sh.size a} {inb' : ∀ a, off' a + size a ≤ sh.size a} :
    M.slice (Rect.unit off size inb) (fun _ => rfl) = M.slice (Rect.unit off' size inb') (fun _ => rfl) := by
  subst h; rfl

end Cert.AllReduce
end
-- ==== Proof.Rows.lean ====
/-
How a buffer is owned in its chunks: a memref split along a family of rectangles that partition it and joined again, a row
of the result as its two halves, and the partitions this kernel uses.
-/
module

public import proofs.«01_k».proof.Proof.Steps
public import Idealize.ShloMosaic.Lib.MemrefSat

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Partitions -/

section Family
variable {sh : Shape} {e : EltTy} {T : Type} (r : T → Rect sh) (P : sh.Idx → T)

/-- Every index lies in exactly one rectangle of the family, the one `P` names. -/
def Parts : Prop := ∀ t i, i ∈ (r t).set ↔ P i = t

variable {r P} (hP : Parts r P)
include hP

theorem Parts.disjoint (t t' : T) (h : t ≠ t') : Disjoint (r t).set (r t').set :=
  Finset.disjoint_left.mpr fun i hi hi' => h (((hP t i).mp hi).symm.trans ((hP t' i).mp hi'))
theorem Parts.cover [Fintype T] : (Finset.univ : Finset T).biUnion (fun t => (r t).set) = Finset.univ := by
  ext i
  simp only [Finset.mem_biUnion, Finset.mem_univ, true_and, iff_true]
  exact ⟨P i, (hP _ i).mpr rfl⟩

theorem Parts.exists_emb (i : sh.Idx) : ∃ j, (r (P i)).emb j = i := by
  have h := (hP (P i) i).mpr rfl
  rw [LoadRect.mem_set] at h
  choose f hf using h
  refine ⟨fun a => ⟨f a, (hf a).1⟩, funext fun a => Fin.ext ?_⟩
  rw [Rect.emb_apply]
  exact (hf a).2.symm

omit hP in
/-- What the pieces' values make together. -/
noncomputable def glue (hP : Parts r P) {α : Type} (Y : (t : T) → (r t).shape.Idx → α) : sh.Idx → α :=
  fun i => Y (P i) (Classical.choose (hP.exists_emb i))

theorem glue_emb {α : Type} (Y : (t : T) → (r t).shape.Idx → α) (t : T) (j : (r t).shape.Idx) : glue hP Y ((r t).emb j) = Y t j := by
  have key : ∀ (t' : T) (j' : (r t').shape.Idx), t' = t → (r t').emb j' = (r t).emb j → Y t' j' = Y t j := by
    rintro _ j' rfl h
    exact congrArg _ ((r _).emb.injective h)
  have ht : P ((r t).emb j) = t := (hP t _).mp (by
    rw [LoadRect.mem_set]
    exact fun a => ⟨(j a).val, (j a).isLt, Rect.emb_apply (r t) j a⟩)
  exact key _ _ ht (Classical.choose_spec (hP.exists_emb ((r t).emb j)))

variable [Fintype T] [DecidableEq T] (c : Dev nD) {sp : Space} (M : Memref sig .tc sp sh e) (hr : ∀ t a, (r t).stride a = 1) {q : PosShare TreeShare}

theorem split_owns (X : sh.Idx → Elt F e) :
    (owns (c : Thread nD τ) M q X : sProp 𝕄) ⊢ bigSep Finset.univ fun t => owns (c : Thread nD τ) (M.slice (r t) (hr t)) q (fun j => X ((r t).emb j)) :=
  owns_rects (c : Thread nD τ) M q r hr hP.disjoint hP.cover X

theorem join_owns (Y : (t : T) → (r t).shape.Idx → Elt F e) :
    (bigSep Finset.univ fun t => owns (c : Thread nD τ) (M.slice (r t) (hr t)) q (Y t)) ⊢ (owns (c : Thread nD τ) M q (glue hP Y) : sProp 𝕄) := by
  refine BIBase.Entails.trans (bigSep_mono fun t _ => ?_) (owns_of_rects (c : Thread nD τ) M q r hr hP.disjoint hP.cover (glue hP Y))
  exact Entails.of_eq (congrArg (owns (c : Thread nD τ) (M.slice (r t) (hr t)) q) (funext fun j => (glue_emb hP Y t j).symm))

/-- A piece owned at contents that some contents of the whole restrict to. -/
theorem some_ext (t : T) : (some' c (M.slice (r t) (hr t)) : sProp 𝕄)
    ⊢ iprop(∃ X : sh.Idx → Elt F e, owns (c : Thread nD τ) (M.slice (r t) (hr t)) fullShare (fun j => X ((r t).emb j))) := by
  unfold some'
  iintro ⟨%Y, H⟩
  iexists (Function.extend (r t).emb Y fun _ => Classical.arbitrary _)
  rw [show (fun j => Function.extend (r t).emb Y (fun _ => Classical.arbitrary (Elt F e)) ((r t).emb j)) = Y from
    funext fun j => (r t).emb.injective.extend_apply _ _ j]
  iexact H

theorem split_some : (some' c M : sProp 𝕄) ⊢ bigSep Finset.univ fun t => some' c (M.slice (r t) (hr t)) := by
  show iprop(∃ X, owns (c : Thread nD τ) M fullShare X) ⊢ _
  refine exists_elim fun X => (split_owns hP c M hr X).trans (bigSep_mono fun t _ => owns_some c)

theorem join_some : (bigSep Finset.univ fun t => some' c (M.slice (r t) (hr t))) ⊢ (some' c M : sProp 𝕄) := by
  refine (bigSep_mono fun t _ => some_ext hP c M hr t).trans ?_
  refine (BI.bigSep_exists_pi Finset.univ (fun (t : T) (X : sh.Idx → Elt F e) =>
    (owns (c : Thread nD τ) (M.slice (r t) (hr t)) fullShare (fun j => X ((r t).emb j)) : sProp 𝕄))).trans ?_
  refine exists_elim fun Y => (join_owns hP c M hr fun t j => Y t ((r t).emb j)).trans (owns_some c)

end Family

/-! ## Rectangles that partition -/

theorem in_block (n t s b w : ℕ) (hs : 0 < s) (hb : b < w) : ((s * t ≤ n ∧ n < s * t + s) ∧ (0 ≤ b ∧ b < 0 + w)) ↔ n / s = t := by
  rw [Nat.div_eq_iff hs, Nat.zero_add, Nat.mul_comm s t]
  constructor
  · rintro ⟨⟨h1, h2⟩, -⟩; exact ⟨h1, by omega⟩
  · rintro ⟨h1, h2⟩; exact ⟨⟨h1, by omega⟩, Nat.zero_le _, hb⟩

theorem aParts : Parts aRect (fun i => (⟨(i 0).val / 384, Nat.div_lt_of_lt_mul (i 0).isLt⟩ : Dev nD)) := fun t i =>
  (Rect.mem_set_unit.trans Fin.forall_fin_two).trans
    ((in_block (i 0).val t.val 384 (i 1).val 768 (by decide) (i 1).isLt).trans (by rw [Fin.ext_iff]))

theorem rParts : Parts rRect (fun i => (⟨(i 0).val / 384, Nat.div_lt_of_lt_mul (i 0).isLt⟩ : Dev nD)) := fun t i =>
  (Rect.mem_set_unit.trans Fin.forall_fin_two).trans
    ((in_block (i 0).val t.val 384 (i 1).val 1536 (by decide) (i 1).isLt).trans (by rw [Fin.ext_iff]))

theorem bParts : Parts bRect (fun i => (⟨(i 1).val / 768, Nat.div_lt_of_lt_mul (i 1).isLt⟩ : Fin 2)) := fun t i =>
  ((Rect.mem_set_unit.trans Fin.forall_fin_two).trans and_comm).trans
    ((in_block (i 1).val t.val 768 (i 0).val 768 (by decide) (i 0).isLt).trans (by rw [Fin.ext_iff]))

/-- Column half `d` of rows. -/
abbrev hRect (d : Fin 2) : Rect S384x1536 := Rect.unit (s := S384x1536) ![0, 768 * d.val] S384x768.size (by revert d; decide)

theorem hParts : Parts hRect (fun i => (⟨(i 1).val / 768, Nat.div_lt_of_lt_mul (i 1).isLt⟩ : Fin 2)) := fun t i =>
  ((Rect.mem_set_unit.trans Fin.forall_fin_two).trans and_comm).trans
    ((in_block (i 1).val t.val 768 (i 0).val 384 (by decide) (i 0).isLt).trans (by rw [Fin.ext_iff]))

theorem in_slot {n t : ℕ} : (t ≤ n ∧ n < t + 1) ↔ n = t := by omega

theorem s3Parts : Parts sRect3 (fun i => (i 0 : Fin 2)) := fun t i => by
  unfold sRect3
  rw [Rect.mem_set_unit]
  constructor
  · intro h
    exact Fin.ext (in_slot.mp (h 0))
  · rintro rfl a
    match a with
    | 0 => exact in_slot.mpr rfl
    | 1 => exact ⟨Nat.zero_le _, (i 1).isLt.trans_eq (Nat.zero_add _).symm⟩
    | 2 => exact ⟨Nat.zero_le _, (i 2).isLt.trans_eq (Nat.zero_add _).symm⟩

theorem s4Parts : Parts (fun t : Fin 2 × Fin 2 => sRect4 t.1 t.2) (fun i => ((i 0 : Fin 2), (i 1 : Fin 2))) := fun t i => by
  show i ∈ (sRect4 t.1 t.2).set ↔ _
  unfold sRect4
  rw [Rect.mem_set_unit]
  constructor
  · intro h
    exact Prod.ext (Fin.ext (in_slot.mp (h 0))) (Fin.ext (in_slot.mp (h 1)))
  · rintro rfl a
    match a with
    | 0 => exact in_slot.mpr rfl
    | 1 => exact in_slot.mpr rfl
    | 2 => exact ⟨Nat.zero_le _, (i 2).isLt.trans_eq (Nat.zero_add _).symm⟩
    | 3 => exact ⟨Nat.zero_le _, (i 3).isLt.trans_eq (Nat.zero_add _).symm⟩

/-! ## Rows and their halves -/

section Row
variable (c : Dev nD) {sp : Space} {e : EltTy} (M : Memref sig .tc sp S1536x1536 e) (j : Dev nD)

theorem half_emb (d : Fin 2) (i : S384x768.Idx) : (rRect j).emb ((hRect d).emb i) = (cRect j d).emb i :=
  funext fun a => Fin.ext (by
    match a with
    | 0 =>
      show 384 * j.val + 1 * (0 + 1 * (i 0).val) = 384 * j.val + 1 * (i 0).val
      rw [Nat.zero_add, Nat.one_mul]
    | 1 =>
      show 0 + 1 * (768 * d.val + 1 * (i 1).val) = 768 * d.val + 1 * (i 1).val
      rw [Nat.zero_add, Nat.one_mul])

omit [FloatOps F] in
theorem at_congr {ℓ : Loc nD τ sig} {α : Type} (q : PosShare TreeShare) (X : α) {S S' : Finset ℓ.ty.shape.Idx} {rd rd' : Buf (Elt F) ℓ → α}
    (hS : S = S') (hr : rd = rd') :
    (iprop(∃ f, ⌜rd f = X⌝ ∗ (ℓ ↦[S]{q} f)) : sProp 𝕄) = iprop(∃ f, ⌜rd' f = X⌝ ∗ (ℓ ↦[S']{q} f)) := by
  subst hS hr; rfl

theorem owns_half (d : Fin 2) (q : PosShare TreeShare) (X : S384x768.Idx → Elt F e) :
    (owns (c : Thread nD τ) ((M.slice (rRect j) (fun _ => rfl)).slice (hRect d) (fun _ => rfl)) q X : sProp 𝕄)
      = owns (c : Thread nD τ) (M.slice (cRect j d) (fun _ => rfl)) q X := by
  have hemb : ((M.slice (rRect j) (fun _ => rfl)).slice (hRect d) (fun _ => rfl)).view.emb = (M.slice (cRect j d) (fun _ => rfl)).view.emb :=
    Function.Embedding.ext fun i => congrArg M.view.emb (half_emb j d i)
  have hset : ((M.slice (rRect j) (fun _ => rfl)).slice (hRect d) (fun _ => rfl)).view.set = (M.slice (cRect j d) (fun _ => rfl)).view.set := by
    unfold View.set
    exact congrArg (fun E => Finset.univ.map E) hemb
  have hread : ∀ f : Buf (Elt F) (M.view.loc (c : Thread nD τ)),
      ((M.slice (rRect j) (fun _ => rfl)).slice (hRect d) (fun _ => rfl)).view.read (Elt F) f = (M.slice (cRect j d) (fun _ => rfl)).view.read (Elt F) f :=
    fun f => funext fun i => congrArg (M.view.read (Elt F) f) (half_emb j d i)
  exact at_congr q X hset (funext hread)

theorem rowOf_half {α : Type} (x y : S384x768.Idx → α) (i : S384x768.Idx) :
    rowOf x y ((hRect 0).emb i) = x i ∧ rowOf x y ((hRect 1).emb i) = y i := by
  have e0 : ((hRect 0).emb i 1).val = (i 1).val := by show 768 * 0 + 1 * (i 1).val = _; rw [Nat.mul_zero, Nat.zero_add, Nat.one_mul]
  have e1 : ((hRect 1).emb i 1).val = 768 + (i 1).val := by show 768 * 1 + 1 * (i 1).val = _; rw [Nat.mul_one, Nat.one_mul]
  have r0 : ∀ d, ((hRect d).emb i 0).val = (i 0).val := fun d => by show 0 + 1 * (i 0).val = _; rw [Nat.zero_add, Nat.one_mul]
  constructor
  · unfold rowOf
    rw [dif_pos (by rw [e0]; exact (i 1).isLt)]
    refine congrArg x (funext fun a => Fin.ext ?_)
    match a with
    | 0 => exact r0 0
    | 1 => exact e0
  · unfold rowOf
    rw [dif_neg (by rw [e1]; exact Nat.not_lt.mpr (Nat.le_add_right _ _))]
    refine congrArg y (funext fun a => Fin.ext ?_)
    match a with
    | 0 => exact r0 1
    | 1 => show ((hRect 1).emb i 1).val - 768 = (i 1).val; rw [e1, Nat.add_sub_cancel_left]

/-- Rows owned at two chunks side by side are the two chunks. -/
theorem owns_row (q : PosShare TreeShare) (x y : S384x768.Idx → Elt F e) :
    (owns (c : Thread nD τ) (M.slice (rRect j) (fun _ => rfl)) q (rowOf x y) : sProp 𝕄)
      ⊣⊢ iprop(owns (c : Thread nD τ) (M.slice (cRect j 0) (fun _ => rfl)) q x ∗ owns (c : Thread nD τ) (M.slice (cRect j 1) (fun _ => rfl)) q y) := by
  have h : (bigSep Finset.univ fun d => owns (c : Thread nD τ) ((M.slice (rRect j) (fun _ => rfl)).slice (hRect d) (fun _ => rfl)) q
        (fun i => rowOf x y ((hRect d).emb i)) : sProp 𝕄)
      = iprop(owns (c : Thread nD τ) (M.slice (cRect j 0) (fun _ => rfl)) q x ∗ owns (c : Thread nD τ) (M.slice (cRect j 1) (fun _ => rfl)) q y) := by
    rw [bigSep_fin_two]
    refine congrArg₂ BI.sep ((owns_half c M j 0 q _).trans (congrArg _ (funext fun i => (rowOf_half x y i).1)))
      ((owns_half c M j 1 q _).trans (congrArg _ (funext fun i => (rowOf_half x y i).2)))
  rw [← h]
  exact ⟨owns_rects (c : Thread nD τ) _ q hRect (fun _ _ => rfl) hParts.disjoint hParts.cover _,
    owns_of_rects (c : Thread nD τ) _ q hRect (fun _ _ => rfl) hParts.disjoint hParts.cover _⟩

theorem some_row : (some' c (M.slice (rRect j) (fun _ => rfl)) : sProp 𝕄)
    ⊣⊢ iprop(some' c (M.slice (cRect j 0) (fun _ => rfl)) ∗ some' c (M.slice (cRect j 1) (fun _ => rfl))) := by
  have h : (bigSep Finset.univ fun d => some' c ((M.slice (rRect j) (fun _ => rfl)).slice (hRect d) (fun _ => rfl)) : sProp 𝕄)
      = iprop(some' c (M.slice (cRect j 0) (fun _ => rfl)) ∗ some' c (M.slice (cRect j 1) (fun _ => rfl))) := by
    rw [bigSep_fin_two]; unfold some'
    exact congrArg₂ BI.sep (congrArg _ (funext fun X => owns_half c M j 0 fullShare X)) (congrArg _ (funext fun X => owns_half c M j 1 fullShare X))
  rw [← h]
  exact ⟨split_some hParts c _ fun _ _ => rfl, join_some hParts c _ fun _ _ => rfl⟩

end Row

/-- A squeezed memref owned, whatever it holds. -/
theorem some_squeezed (c : Dev nD) {sp : Space} {sh s' : Shape} {e : EltTy} (M : Memref sig .tc sp sh e) (h : sh.Squeezes s') :
    (some' c (M.squeeze s' h) : sProp 𝕄) ⊣⊢ some' c M := by
  unfold some'
  constructor
  · exact exists_elim fun X => (owns_squeezed c M h h.numel_eq.symm fullShare X).1.trans (owns_some c)
  · refine exists_elim fun X => ?_
    have e : X = shapeCast sh (shapeCast s' X h.numel_eq) h.numel_eq.symm := (shapeCast_shapeCast X _ _).symm
    rw [e]
    exact (owns_squeezed c M h h.numel_eq.symm fullShare _).2.trans (owns_some c)

end Cert.AllReduce
end
-- ==== Proof.Parts.lean ====
/-
The kernel's body in its parts, each from the chunks and semaphores it uses to what it leaves, on a symbolic device `c`.
-/
module

public import proofs.«01_k».proof.Proof.Rows

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : Dev nD × SemLoc sig → ℕ)

/-! ## What the transfers hand over, at the chunks' names -/

section
variable (c : Dev nD)

theorem pay_a (j : Dev nD) : pay m c (.a j) = iprop(owns (c : Thread nD τ) (aV j) fullShare (aVal m c j) ∗ owns (c : Thread nD τ) (aH j) fullShare (aVal m c j)) := rfl
theorem pay_b (d : Fin 2) : pay m c (.b d) = iprop(owns (c : Thread nD τ) (bV d) fullShare (bVal m c d) ∗ owns (c : Thread nD τ) (bH d) fullShare (bVal m c d)) := rfl
theorem past_a (j : Dev nD) : past m c (.a j) ⊣⊢ iprop(owns (c : Thread nD τ) (aV j) fullShare (aVal m c j)
    ∗ (owns (c : Thread nD τ) (aH j) fullShare (aVal m c j) ∗ shut c (.a j))) := by
  unfold past
  rw [pay_a]
  constructor
  · iintro ⟨⟨H1, H2⟩, H3⟩; iframe
  · iintro ⟨H1, H2, H3⟩; iframe
theorem pay_s1r (d j : Fin 2) : pay m c (.s1r d j) = owns (c : Thread nD τ) (s1B d j) fullShare (part m (p1 d c) (rcv d j c) d) := rfl
theorem pay_s2r (d : Fin 2) : pay m c (.s2r d) = owns (c : Thread nD τ) (s2B d) fullShare (sum1 m (p2 d c) d) := rfl
theorem pay_g2r (d j : Fin 2) : pay m c (.g2r d j) = owns (c : Thread nD τ) (g2B d j) fullShare (red m (src d j c) d) := rfl
theorem pay_g1r (d : Fin 2) : pay m c (.g1r d) = owns (c : Thread nD τ) (g1B d) fullShare (red m (p2 d c) d) := rfl

theorem rcv00 : rcv 0 0 (p1 0 c) = x2 c := by revert c; decide
theorem rcv01 : rcv 0 1 (p1 0 c) = x3 c := by revert c; decide
theorem rcv10 : rcv 1 0 (p1 1 c) = x2 c := by revert c; decide
theorem rcv11 : rcv 1 1 (p1 1 c) = x1 c := by revert c; decide
theorem src00 : src 0 0 (p1 0 c) = c := by revert c; decide
theorem src10 : src 1 0 (p1 1 c) = c := by revert c; decide
theorem src01 : src 0 1 (p1 0 c) = p2 0 c := by revert c; decide
theorem src11 : src 1 1 (p1 1 c) = p2 1 c := by revert c; decide

variable {c}

theorem of_s1s {d j : Fin 2} {e : Dev nD} (h : rcv d j (p1 d c) = e) :
    owns (c : Thread nD τ) (acc e d) fullShare (part m c e d) ⊢ pay m c (.s1s d j) := by subst h; exact .rfl
theorem to_s1r {d j : Fin 2} {e : Dev nD} (h : rcv d j (p1 d c) = e) :
    owns (peer c (.s1r d j) : Thread nD τ) (s1B d j) fullShare (part m c e d) ⊢ pay m (peer c (.s1r d j)) (.s1r d j) := by
  subst h; simp only [pay, peer, p1_p1]; exact .rfl
theorem to_g2r {d j : Fin 2} {e : Dev nD} (h : src d j (p1 d c) = e) :
    owns (peer c (.g2r d j) : Thread nD τ) (g2B d j) fullShare (red m e d) ⊢ pay m (peer c (.g2r d j)) (.g2r d j) := by
  subst h; exact .rfl

variable (c)

theorem to_s2r (d : Fin 2) :
    owns (peer c (.s2r d) : Thread nD τ) (s2B d) fullShare (sum1 m c d) ⊢ pay m (peer c (.s2r d)) (.s2r d) := by
  simp only [pay, peer, p2_p2]; exact .rfl
theorem to_g1r (d : Fin 2) :
    owns (peer c (.g1r d) : Thread nD τ) (g1B d) fullShare (red m c d) ⊢ pay m (peer c (.g1r d)) (.g1r d) := by
  simp only [pay, peer, p2_p2]; exact .rfl

end

/-- A part of the body at the launch's buffers. -/
abbrev at' {β : Type 1} (f : (arg0 : Memref sig .tc .hbm S1536x768 .f32) → arg0.IsWhole → (arg1 : Memref sig .tc .hbm S768x1536 .f32) → arg1.IsWhole → (arg2 : Memref sig .tc .hbm S1536x1536 .f32) → arg2.IsWhole → (arg3 : Memref sig .tc .vmem S1536x768 .f32) → arg3.IsWhole → (arg4 : Memref sig .tc .vmem S768x1536 .f32) → arg4.IsWhole → (arg5 : Memref sig .tc .vmem S1536x768 .bf16) → arg5.IsWhole → (arg6 : Memref sig .tc .vmem S768x1536 .bf16) → arg6.IsWhole → (arg7 : Memref sig .tc .vmem S1536x1536 .bf16) → arg7.IsWhole → (arg8 : Memref sig .tc .vmem S1536x1536 .f32) → arg8.IsWhole → (arg9 : Memref sig .tc .vmem S2x2x384x768 .bf16) → arg9.IsWhole → (arg10 : Memref sig .tc .vmem S2x384x768 .bf16) → arg10.IsWhole → (arg11 : Memref sig .tc .vmem S2x384x768 .bf16) → arg11.IsWhole → (arg12 : Memref sig .tc .vmem S2x2x384x768 .bf16) → arg12.IsWhole → DmaSems sig S4 → DmaSems sig S2 → DmaSems sig S1 → DmaSems sig S2x3 → DmaSems sig S2x2 → DmaSems sig S2x2 → DmaSems sig S2 → DmaSems sig S2 → DmaSems sig S2 → DmaSems sig S2 → DmaSems sig S2x2 → DmaSems sig S2x2 → β) : β :=
  f (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20 cc0_scratch21

/-! ## The parts -/

/-- The copies of the first chunks are started. -/
theorem part1 (c : Dev nD) {Q : (Σ' (d0 : Dev nD) (v2 : BitVec 32) (v3 : BitVec 32) (v4 : BitVec 32), BitVec 32) → sProp (MT nD τ sig Unit (Elt F) ℕ UU ℕ)} :
    ctx m K ⊢ iprop(owns (c : Thread nD τ) (aH (x2 c)) fullShare (aVal m c (x2 c))
      -∗ some' c (aV (x2 c))
      -∗ ready c (.a (x2 c))
      -∗ owns (c : Thread nD τ) (bH 0) fullShare (bVal m c 0)
      -∗ some' c (bV 0)
      -∗ ready c (.b 0)
      -∗ owns (c : Thread nD τ) (bH 1) fullShare (bVal m c 1)
      -∗ some' c (bV 1)
      -∗ ready c (.b 1)
      -∗ owns (c : Thread nD τ) (aH (x3 c)) fullShare (aVal m c (x3 c))
      -∗ some' c (aV (x3 c))
      -∗ ready c (.a (x3 c))
      -∗ (∀ v2 v3 v4 v27, pend c (.a (x2 c))
        -∗ pend c (.b 0)
        -∗ pend c (.b 1)
        -∗ pend c (.a (x3 c)) -∗ Q ⟨c, v2, v3, v4, v27⟩)
      -∗ wpD c (at' (k0_part1 (F := F))) Q) := by
  rw [k0_part1_eq_skeleton]
  unfold k0_part1_skel
  simp only [at', semSignalWord, semWaitWord, Prog.lift, Prog.bind_op, Prog.bind_ret, Prog.pure_eq_ret, wp_deviceId]
  iintro #HC Ha2 Hv2 Hr2 Hb0 Hw0 Hrb0 Hb1 Hw1 Hrb1 Ha3 Hv3 Hr3 Hk
  iapply (copy_step m K c (.a (x2 c)) (aH (x2 c)) (aV (x2 c)) (slice_congr (off2_2 c)) (slice_congr (off2_2 c)) (sem_a2 c) rfl .rfl) $$ HC Ha2 Hv2 Hr2
  iintro Hp2
  iapply (copy_step m K c (.b 0) (bH 0) (bV 0) rfl rfl rfl rfl .rfl) $$ HC Hb0 Hw0 Hrb0
  iintro Hpb0
  iapply (copy_step m K c (.b 1) (bH 1) (bV 1) rfl rfl rfl rfl .rfl) $$ HC Hb1 Hw1 Hrb1
  iintro Hpb1
  iapply (copy_step m K c (.a (x3 c)) (aH (x3 c)) (aV (x3 c)) (slice_congr (off2_3 c)) (slice_congr (off2_3 c)) (sem_a3 c) rfl .rfl) $$ HC Ha3 Hv3 Hr3
  iintro Hp3
  iapply ret_step
  iapply Hk $$ Hp2 Hpb0 Hpb1 Hp3

/-- The other two copies, and the barrier with both partners. -/
theorem part2 (c : Dev nD) (v2 v3 v4 v27 : BitVec 32) {W : Waits sig Unit} {Q : (Σ' (v45 : BitVec 32) (v46 : BitVec 32) (v47 : BitVec 32) (v48 : BitVec 32) (v49 : BitVec 32) (v50 : BitVec 32) (v51 : BitVec 32) (v52 : BitVec 32) (v53 : BitVec 32) (v54 : BitVec 32) (v55 : BitVec 32), BitVec 32) → sProp (MT nD τ sig Unit (Elt F) ℕ UU ℕ)} :
    ctx m K ⊢ iprop(owns (c : Thread nD τ) (aH (x1 c)) fullShare (aVal m c (x1 c))
      -∗ some' c (aV (x1 c))
      -∗ ready c (.a (x1 c))
      -∗ owns (c : Thread nD τ) (aH c) fullShare (aVal m c c)
      -∗ some' c (aV c)
      -∗ ready c (.a c)
      -∗ owes (c : Thread nD τ) (O₀ c) W
      -∗ dutyTok ER (barCell (x3 c)) 0 false
      -∗ barPay (x3 c) false
      -∗ dutyTok ER (barCell (x1 c)) 0 true
      -∗ barPay (x1 c) true
      -∗ cred (tallyAt (barCell c) () 2)
      -∗ atPos ER (barCell c) 0 ∅ 0
      -∗ (∀ v45 v46 v47 v48 v49 v50 v51 v52 v53 v54 v55 v56, pend c (.a (x1 c))
        -∗ pend c (.a c)
        -∗ slots (x3 c) 0 1
        -∗ slots (x1 c) 1 0
        -∗ semVal (barCell c) 0
        -∗ owing c sends -∗ Q ⟨v45, v46, v47, v48, v49, v50, v51, v52, v53, v54, v55, v56⟩)
      -∗ wpD c (at' (k0_part2 (F := F)) c v2 v3 v4 v27) Q) := by
  rw [k0_part2_eq_skeleton]
  unfold k0_part2_skel
  simp only [at', semSignalWord, semWaitWord, Prog.lift, Prog.bind_op, Prog.bind_ret, Prog.pure_eq_ret, wp_deviceId]
  unfold O₀
  iintro #HC Ha1 Hv1 Hr1 Ha0 Hv0 Hr0 HO Ht3 Hs3 Ht1 Hs1 Hc Hat Hk
  iapply (copy_step m K c (.a (x1 c)) (aH (x1 c)) (aV (x1 c)) (slice_congr (off2_1 c)) (slice_congr (off2_1 c)) (sem_a1 c) rfl .rfl) $$ HC Ha1 Hv1 Hr1
  iintro Hp1
  iapply (copy_step m K c (.a c) (aH c) (aV c) (slice_congr (off4' c)) (slice_congr (off4' c)) (sem_a0 c) rfl .rfl) $$ HC Ha0 Hv0 Hr0
  iintro Hp0
  iapply (signal_step m K c (dev1' c) false (O := owe c sends + tallyAt (barCell (x1 c)) () 1) rfl) $$ HC HO Ht3 Hs3
  iintro HO
  iapply (signal_step m K c (dev2' c) true (O := owe c sends) rfl) $$ HC HO Ht1 Hs1
  iintro HO
  iapply (barrier_step m K c) $$ HC Hc HO Hat
  iintro ⟨Hs3, Hs1, Hz, HO⟩
  iapply ret_step
  iapply Hk $$ Hp1 Hp0 Hs3 Hs1 Hz HO

/-- The first chunk of `A` and the first half of `B` arrive and are rounded; their product. -/
theorem part3 (c : Dev nD) (v2 : BitVec 32) {Q : (Σ' (v82 : BitVec 32), FVec F S384x768 .bf16) → sProp (MT nD τ sig Unit (Elt F) ℕ UU ℕ)} :
    ctx m K ⊢ iprop(pend c (.a (x2 c))
      -∗ pend c (.b 0)
      -∗ some' c (aB (x2 c))
      -∗ some' c (bB 0)
      -∗ owing c sends
      -∗ (∀ v82, past m c (.a (x2 c))
        -∗ past m c (.b 0)
        -∗ owns (c : Thread nD τ) (aB (x2 c)) fullShare (aRnd m c (x2 c))
        -∗ owns (c : Thread nD τ) (bB 0) fullShare (bRnd m c 0)
        -∗ owing c sends -∗ Q ⟨v82, k0_pay3 (aRnd m c (x2 c)) (bRnd m c 0)⟩)
      -∗ wpD c (at' (k0_part3 (F := F)) c v2) Q) := by
  rw [k0_part3_eq_skeleton]
  unfold k0_part3_skel
  simp only [at', semSignalWord, semWaitWord, Prog.lift, Prog.bind_op, Prog.bind_ret, Prog.pure_eq_ret, wp_deviceId]
  iintro #HC Hpa Hpb Ha Hb HO Hk
  iapply (wait_step m K c (.a (x2 c)) (sends) 0 rfl (by decide) (pay_a m c _) (sem_a2 c) ?_) $$ HC Hpa HO
  · rfl
  iintro ⟨⟨Hv, Hh⟩, Hz, HO⟩
  iapply (load_step c (off5_2 c)) $$ Hv; iintro Hv
  iapply (put_step c (off5_2 c) (aRnd m c (x2 c)) ?_) $$ Ha
  · rfl
  iintro Ha
  ihave Hpa := (to_past m c (.a (x2 c)) (pay_a m c _)) $$ [Hv Hh] Hz
  · iframe
  iapply (wait_step m K c (.b 0) (sends) 0 rfl (by decide) (pay_b m c _) rfl ?_) $$ HC Hpb HO
  · rfl
  iintro ⟨⟨Hv, Hh⟩, Hz, HO⟩
  iapply (load_step c rfl) $$ Hv; iintro Hv
  iapply (put_step c rfl (bRnd m c 0) ?_) $$ Hb
  · rfl
  iintro Hb
  ihave Hpb := (to_past m c (.b 0) (pay_b m c _)) $$ [Hv Hh] Hz
  · iframe
  iapply (load_step c (off5_2 c)) $$ Ha; iintro Ha
  iapply (load_step c rfl) $$ Hb; iintro Hb
  iapply ret_step
  iapply Hk $$ Hpa Hpb Ha Hb HO

/-- The first product is stored and sent; the second half of `B` arrives. -/
theorem part4 (c : Dev nD) (v2 v3 v45 v82 : BitVec 32) {Q : (Σ' (v113 : BitVec 32), Vec F S384x768 .bf16) → sProp (MT nD τ sig Unit (Elt F) ℕ UU ℕ)} :
    ctx m K ⊢ iprop(some' c (acc (x2 c) 0)
      -∗ some' (p1 0 c) (s1B 0 0)
      -∗ ready c (.s1s 0 0)
      -∗ tok (p1 0 c) (.s1r 0 0)
      -∗ owing c sends
      -∗ pend c (.b 1)
      -∗ some' c (bB 1)
      -∗ owns (c : Thread nD τ) (aB (x2 c)) fullShare (aRnd m c (x2 c))
      -∗ (∀ v113, pend c (.s1s 0 0)
        -∗ past m c (.b 1)
        -∗ owns (c : Thread nD τ) (bB 1) fullShare (bRnd m c 1)
        -∗ owns (c : Thread nD τ) (aB (x2 c)) fullShare (aRnd m c (x2 c))
        -∗ owing c (sends.drop 1) -∗ Q ⟨v113, aRnd m c (x2 c)⟩)
      -∗ wpD c (at' (k0_part4 (F := F)) c v2 v3 v45 v82 (k0_pay3 (aRnd m c (x2 c)) (bRnd m c 0))) Q) := by
  rw [k0_part4_eq_skeleton]
  unfold k0_part4_skel
  simp only [at', semSignalWord, semWaitWord, Prog.lift, Prog.bind_op, Prog.bind_ret, Prog.pure_eq_ret, wp_deviceId]
  iintro #HC Hac Hd Hr Ht HO Hpb Hb Ha Hk
  iapply (put_step c (off6_2 c) (part m c (x2 c) 0) ?_) $$ Hac
  · rfl
  iintro Hac
  iapply (send_step m K c (.s1s 0 0) (.s1r 0 0) (p1 0 c) sends (sends.drop 1) (acc (x2 c) 0) (s1B 0 0) rfl rfl (dev3' c) (slice_congr (off7_2 c)) rfl rfl rfl rfl rfl (X := part m c (x2 c) 0) (of_s1s m (rcv00 c)) (to_s1r m (rcv00 c))) $$ HC Hac Hd Hr Ht HO
  iintro ⟨Hp, HO⟩
  iapply (wait_step m K c (.b 1) (sends.drop 1) 0 rfl (by decide) (pay_b m c _) rfl ?_) $$ HC Hpb HO
  · rfl
  iintro ⟨⟨Hv, Hh⟩, Hz, HO⟩
  iapply (load_step c rfl) $$ Hv; iintro Hv
  iapply (put_step c rfl (bRnd m c 1) ?_) $$ Hb
  · rfl
  iintro Hb
  ihave Hpb := (to_past m c (.b 1) (pay_b m c _)) $$ [Hv Hh] Hz
  · iframe
  iapply (load_step c (off5_2 c)) $$ Ha; iintro Ha
  iapply ret_step
  iapply Hk $$ Hp Hpb Hb Ha HO

/-- The same chunk's product with the second half is sent; the next chunk of `A` arrives. -/
theorem part5 (c : Dev nD) (v2 v4 v47 v113 : BitVec 32) {Q : (FVec F S384x768 .bf16) → sProp (MT nD τ sig Unit (Elt F) ℕ UU ℕ)} :
    ctx m K ⊢ iprop(owns (c : Thread nD τ) (bB 1) fullShare (bRnd m c 1)
      -∗ some' c (acc (x2 c) 1)
      -∗ some' (p1 1 c) (s1B 1 0)
      -∗ ready c (.s1s 1 0)
      -∗ tok (p1 1 c) (.s1r 1 0)
      -∗ owing c (sends.drop 1)
      -∗ pend c (.a (x3 c))
      -∗ some' c (aB (x3 c))
      -∗ (pend c (.s1s 1 0)
        -∗ past m c (.a (x3 c))
        -∗ owns (c : Thread nD τ) (bB 1) fullShare (bRnd m c 1)
        -∗ some' c (aB (x3 c))
        -∗ owing c (sends.drop 2) -∗ Q (k0_pay7 (aVal m c (x3 c))))
      -∗ wpD c (at' (k0_part5 (F := F)) c v2 v4 v47 v113 (aRnd m c (x2 c))) Q) := by
  rw [k0_part5_eq_skeleton]
  unfold k0_part5_skel
  simp only [at', semSignalWord, semWaitWord, Prog.lift, Prog.bind_op, Prog.bind_ret, Prog.pure_eq_ret, wp_deviceId]
  iintro #HC Hb Hac Hd Hr Ht HO Hpa Ha Hk
  iapply (load_step c rfl) $$ Hb; iintro Hb
  iapply (put_step c (off8_2 c) (part m c (x2 c) 1) ?_) $$ Hac
  · rfl
  iintro Hac
  iapply (send_step m K c (.s1s 1 0) (.s1r 1 0) (p1 1 c) (sends.drop 1) (sends.drop 2) (acc (x2 c) 1) (s1B 1 0) rfl rfl (dev4' c) (slice_congr (off9_2 c)) rfl rfl rfl rfl rfl (X := part m c (x2 c) 1) (of_s1s m (rcv10 c)) (to_s1r m (rcv10 c))) $$ HC Hac Hd Hr Ht HO
  iintro ⟨Hp, HO⟩
  iapply (wait_step m K c (.a (x3 c)) (sends.drop 2) 0 rfl (by decide) (pay_a m c _) (sem_a3 c) ?_) $$ HC Hpa HO
  · rfl
  iintro ⟨⟨Hv, Hh⟩, Hz, HO⟩
  iapply (load_step c (off5_3 c)) $$ Hv; iintro Hv
  ihave Hpa := (to_past m c (.a (x3 c)) (pay_a m c _)) $$ [Hv Hh] Hz
  · iframe
  iapply (load_some_step c (off5_3 c)) $$ Ha; iintro %X Ha
  iapply ret_step
  iapply Hk $$ Hp Hpa Hb Ha HO

/-- The next chunk's product with the first half is sent; another chunk arrives. -/
theorem part6 (c : Dev nD) (v2 v3 v46 : BitVec 32) {Q : (Σ' (v173 : BitVec 32), BitVec 32) → sProp (MT nD τ sig Unit (Elt F) ℕ UU ℕ)} :
    ctx m K ⊢ iprop(some' c (aB (x3 c))
      -∗ owns (c : Thread nD τ) (bB 0) fullShare (bRnd m c 0)
      -∗ some' c (acc (x3 c) 0)
      -∗ some' (p1 0 c) (s1B 0 1)
      -∗ ready c (.s1s 0 1)
      -∗ tok (p1 0 c) (.s1r 0 1)
      -∗ owing c (sends.drop 2)
      -∗ pend c (.a (x1 c))
      -∗ (∀ v173 w, pend c (.s1s 0 1)
        -∗ past m c (.a (x1 c))
        -∗ owns (c : Thread nD τ) (bB 0) fullShare (bRnd m c 0)
        -∗ owns (c : Thread nD τ) (aB (x3 c)) fullShare (aRnd m c (x3 c))
        -∗ owing c (sends.drop 3) -∗ Q ⟨v173, w⟩)
      -∗ wpD c (at' (k0_part6 (F := F)) c v2 v3 v46 (k0_pay7 (aVal m c (x3 c)))) Q) := by
  rw [k0_part6_eq_skeleton]
  unfold k0_part6_skel
  simp only [at', semSignalWord, semWaitWord, Prog.lift, Prog.bind_op, Prog.bind_ret, Prog.pure_eq_ret, wp_deviceId]
  iintro #HC Ha Hb Hac Hd Hr Ht HO Hpa Hk
  iapply (store_some_step c (off5_3 c) (aRnd m c (x3 c)) ?_) $$ Ha
  · rfl
  iintro Ha
  iapply (load_step c (off5_3 c)) $$ Ha; iintro Ha
  iapply (load_step c rfl) $$ Hb; iintro Hb
  iapply (put_step c (off6_3 c) (part m c (x3 c) 0) ?_) $$ Hac
  · rfl
  iintro Hac
  iapply (send_step m K c (.s1s 0 1) (.s1r 0 1) (p1 0 c) (sends.drop 2) (sends.drop 3) (acc (x3 c) 0) (s1B 0 1) rfl rfl (dev5' c) (slice_congr (off7_3 c)) rfl rfl rfl rfl rfl (X := part m c (x3 c) 0) (of_s1s m (rcv01 c)) (to_s1r m (rcv01 c))) $$ HC Hac Hd Hr Ht HO
  iintro ⟨Hp, HO⟩
  iapply (wait_step m K c (.a (x1 c)) (sends.drop 3) 0 rfl (by decide) rfl (sem_a1 c) ?_) $$ HC Hpa HO
  · rfl
  iintro ⟨Hv, Hz, HO⟩
  ihave Hpa := (to_past m c (.a (x1 c)) rfl) $$ Hv Hz
  iapply ret_step
  iapply Hk $$ Hp Hpa Hb Ha HO

/-- Its product with the second half is sent. -/
theorem part7 (c : Dev nD) (v2 v4 v48 v173 c384_i32_143 : BitVec 32) {Q : (Σ' (v211 : BitVec 32), BitVec 32) → sProp (MT nD τ sig Unit (Elt F) ℕ UU ℕ)} :
    ctx m K ⊢ iprop(past m c (.a (x1 c))
      -∗ some' c (aB (x1 c))
      -∗ owns (c : Thread nD τ) (bB 1) fullShare (bRnd m c 1)
      -∗ some' c (acc (x1 c) 1)
      -∗ some' (p1 1 c) (s1B 1 1)
      -∗ ready c (.s1s 1 1)
      -∗ tok (p1 1 c) (.s1r 1 1)
      -∗ owing c (sends.drop 3)
      -∗ (∀ v211 w, pend c (.s1s 1 1)
        -∗ past m c (.a (x1 c))
        -∗ owns (c : Thread nD τ) (bB 1) fullShare (bRnd m c 1)
        -∗ owns (c : Thread nD τ) (aB (x1 c)) fullShare (aRnd m c (x1 c))
        -∗ owing c (sends.drop 4) -∗ Q ⟨v211, w⟩)
      -∗ wpD c (at' (k0_part7 (F := F)) c v2 v4 v48 v173 c384_i32_143) Q) := by
  rw [k0_part7_eq_skeleton]
  unfold k0_part7_skel
  simp only [at', semSignalWord, semWaitWord, Prog.lift, Prog.bind_op, Prog.bind_ret, Prog.pure_eq_ret, wp_deviceId]
  iintro #HC Hpa Ha Hb Hac Hd Hr Ht HO Hk
  ihave Hpa := ((past_a m c _).1) $$ Hpa
  icases Hpa with ⟨Hv, Hh⟩
  iapply (load_step c (off5_1 c)) $$ Hv; iintro Hv
  iapply (put_step c (off5_1 c) (aRnd m c (x1 c)) ?_) $$ Ha
  · rfl
  iintro Ha
  ihave Hpa := ((past_a m c (x1 c)).2) $$ [Hv Hh]
  · iframe
  iapply (load_step c (off5_1 c)) $$ Ha; iintro Ha
  iapply (load_step c rfl) $$ Hb; iintro Hb
  iapply (put_step c (off8_1 c) (part m c (x1 c) 1) ?_) $$ Hac
  · rfl
  iintro Hac
  iapply (send_step m K c (.s1s 1 1) (.s1r 1 1) (p1 1 c) (sends.drop 3) (sends.drop 4) (acc (x1 c) 1) (s1B 1 1) rfl rfl (dev6' c) (slice_congr (off9_1 c)) rfl rfl rfl rfl rfl (X := part m c (x1 c) 1) (of_s1s m (rcv11 c)) (to_s1r m (rcv11 c))) $$ HC Hac Hd Hr Ht HO
  iintro ⟨Hp, HO⟩
  iapply ret_step
  iapply Hk $$ Hp Hpa Hb Ha HO

/-- The products the second step sends on; the device's own chunk arrives. -/
theorem part8 (c : Dev nD) (v2 v211 c384_i32_168 : BitVec 32) {Q : (FVec F S384x768 .bf16) → sProp (MT nD τ sig Unit (Elt F) ℕ UU ℕ)} :
    ctx m K ⊢ iprop(owns (c : Thread nD τ) (aB (x1 c)) fullShare (aRnd m c (x1 c))
      -∗ owns (c : Thread nD τ) (bB 0) fullShare (bRnd m c 0)
      -∗ some' c (acc (x1 c) 0)
      -∗ owns (c : Thread nD τ) (aB (x3 c)) fullShare (aRnd m c (x3 c))
      -∗ owns (c : Thread nD τ) (bB 1) fullShare (bRnd m c 1)
      -∗ some' c (acc (x3 c) 1)
      -∗ pend c (.a c)
      -∗ owing c (sends.drop 4)
      -∗ (past m c (.a c)
        -∗ owns (c : Thread nD τ) (aB (x1 c)) fullShare (aRnd m c (x1 c))
        -∗ owns (c : Thread nD τ) (bB 0) fullShare (bRnd m c 0)
        -∗ owns (c : Thread nD τ) (acc (x1 c) 0) fullShare (part m c (x1 c) 0)
        -∗ owns (c : Thread nD τ) (aB (x3 c)) fullShare (aRnd m c (x3 c))
        -∗ owns (c : Thread nD τ) (bB 1) fullShare (bRnd m c 1)
        -∗ owns (c : Thread nD τ) (acc (x3 c) 1) fullShare (part m c (x3 c) 1)
        -∗ owing c (sends.drop 4) -∗ Q (k0_pay14 (aVal m c c)))
      -∗ wpD c (at' (k0_part8 (F := F)) c v2 v211 c384_i32_168) Q) := by
  rw [k0_part8_eq_skeleton]
  unfold k0_part8_skel
  simp only [at', semSignalWord, semWaitWord, Prog.lift, Prog.bind_op, Prog.bind_ret, Prog.pure_eq_ret, wp_deviceId]
  iintro #HC Ha1 Hb0 Hac1 Ha3 Hb1 Hac3 Hpa HO Hk
  iapply (load_step c (off5_1 c)) $$ Ha1; iintro Ha1
  iapply (load_step c rfl) $$ Hb0; iintro Hb0
  iapply (put_step c (off6_1 c) (part m c (x1 c) 0) ?_) $$ Hac1
  · rfl
  iintro Hac1
  iapply (load_step c (off5_3 c)) $$ Ha3; iintro Ha3
  iapply (load_step c rfl) $$ Hb1; iintro Hb1
  iapply (put_step c (off8_3 c) (part m c (x3 c) 1) ?_) $$ Hac3
  · rfl
  iintro Hac3
  iapply (wait_step m K c (.a c) (sends.drop 4) 0 rfl (by decide) (pay_a m c _) (sem_a0 c) ?_) $$ HC Hpa HO
  · rfl
  iintro ⟨⟨Hv, Hh⟩, Hz, HO⟩
  iapply (load_step c (off10' c)) $$ Hv; iintro Hv
  ihave Hpa := (to_past m c (.a c) (pay_a m c _)) $$ [Hv Hh] Hz
  · iframe
  iapply ret_step
  iapply Hk $$ Hpa Ha1 Hb0 Hac1 Ha3 Hb1 Hac3 HO

/-- The device's own chunk's products. -/
theorem part9 (c : Dev nD) (v2 v3 v45 : BitVec 32) {Q : (PUnit) → sProp (MT nD τ sig Unit (Elt F) ℕ UU ℕ)} :
    ctx m K ⊢ iprop(some' c (aB c)
      -∗ owns (c : Thread nD τ) (bB 0) fullShare (bRnd m c 0)
      -∗ some' c (acc c 0)
      -∗ owns (c : Thread nD τ) (bB 1) fullShare (bRnd m c 1)
      -∗ some' c (acc c 1)
      -∗ (owns (c : Thread nD τ) (aB c) fullShare (aRnd m c c)
        -∗ owns (c : Thread nD τ) (bB 0) fullShare (bRnd m c 0)
        -∗ owns (c : Thread nD τ) (acc c 0) fullShare (part m c c 0)
        -∗ owns (c : Thread nD τ) (bB 1) fullShare (bRnd m c 1)
        -∗ owns (c : Thread nD τ) (acc c 1) fullShare (part m c c 1) -∗ Q ⟨⟩)
      -∗ wpD c (at' (k0_part9 (F := F)) c v2 v3 v45 (k0_pay14 (aVal m c c))) Q) := by
  rw [k0_part9_eq_skeleton]
  unfold k0_part9_skel
  simp only [at', semSignalWord, semWaitWord, Prog.lift, Prog.bind_op, Prog.bind_ret, Prog.pure_eq_ret, wp_deviceId]
  iintro #HC Ha Hb0 Hac0 Hb1 Hac1 Hk
  iapply (put_step c (off10' c) (aRnd m c c) ?_) $$ Ha
  · rfl
  iintro Ha
  iapply (load_step c (off10' c)) $$ Ha; iintro Ha
  iapply (load_step c rfl) $$ Hb0; iintro Hb0
  iapply (put_step c (off11' c) (part m c c 0) ?_) $$ Hac0
  · rfl
  iintro Hac0
  iapply (load_step c (off10' c)) $$ Ha; iintro Ha
  iapply (load_step c rfl) $$ Hb1; iintro Hb1
  iapply (put_step c (off12' c) (part m c c 1) ?_) $$ Hac1
  · rfl
  iintro Hac1
  iapply ret_step
  iapply Hk $$ Ha Hb0 Hac0 Hb1 Hac1

/-- The first arrival of half 0 is added to the chunk the second step sends on, which is sent. -/
theorem part10 (c : Dev nD) (v4 v47 v49 v51 : BitVec 32) {Q : (PUnit) → sProp (MT nD τ sig Unit (Elt F) ℕ UU ℕ)} :
    ctx m K ⊢ iprop(pend c (.s1r 0 0)
      -∗ owns (c : Thread nD τ) (acc (x1 c) 0) fullShare (part m c (x1 c) 0)
      -∗ some' (p2 0 c) (s2B 0)
      -∗ ready c (.s2s 0)
      -∗ tok (p2 0 c) (.s2r 0)
      -∗ owing c (sends.drop 4)
      -∗ (past m c (.s1r 0 0)
        -∗ pend c (.s2s 0)
        -∗ owing c (sends.drop 5) -∗ Q ⟨⟩)
      -∗ wpD c (at' (k0_part10 (F := F)) c v4 v47 v49 v51) Q) := by
  rw [k0_part10_eq_skeleton]
  unfold k0_part10_skel
  simp only [at', semSignalWord, semWaitWord, Prog.lift, Prog.bind_op, Prog.bind_ret, Prog.pure_eq_ret, wp_deviceId]
  iintro #HC Hpr Hac Hd Hr Ht HO Hk
  iapply (wait_step m K c (.s1r 0 0) (sends.drop 4) 2 rfl (by decide) (pay_s1r m c 0 0) rfl ?_) $$ HC Hpr HO
  · rfl
  iintro ⟨Hs, Hz, HO⟩
  iapply (load_step c (off6_1 c)) $$ Hac; iintro Hac
  iapply (load_slot_step c (by decide) _ rfl) $$ Hs; iintro Hs
  ihave Hac := (owns_some c) $$ Hac
  iapply (put_step c (off6_1 c) (sum1 m c 0) ?_) $$ Hac
  · exact plus_18 _ _
  iintro Hac
  iapply (send_step m K c (.s2s 0) (.s2r 0) (p2 0 c) (sends.drop 4) (sends.drop 5) (acc (x1 c) 0) (s2B 0) rfl rfl (dev7' c) (slice_congr (off7_1 c)) rfl rfl rfl rfl rfl (X := sum1 m c 0) .rfl (to_s2r m c 0)) $$ HC Hac Hd Hr Ht HO
  iintro ⟨Hp, HO⟩
  ihave Hpr := (to_past m c (.s1r 0 0) (pay_s1r m c 0 0)) $$ Hs Hz
  iapply ret_step
  iapply Hk $$ Hpr Hp HO

/-- The first arrival of half 1 is added to the chunk the second step sends on, which is sent. -/
theorem part11 (c : Dev nD) (v3 v46 v50 v52 : BitVec 32) {Q : (PUnit) → sProp (MT nD τ sig Unit (Elt F) ℕ UU ℕ)} :
    ctx m K ⊢ iprop(pend c (.s1r 1 0)
      -∗ owns (c : Thread nD τ) (acc (x3 c) 1) fullShare (part m c (x3 c) 1)
      -∗ some' (p2 1 c) (s2B 1)
      -∗ ready c (.s2s 1)
      -∗ tok (p2 1 c) (.s2r 1)
      -∗ owing c (sends.drop 5)
      -∗ (past m c (.s1r 1 0)
        -∗ pend c (.s2s 1)
        -∗ owing c (sends.drop 6) -∗ Q ⟨⟩)
      -∗ wpD c (at' (k0_part11 (F := F)) c v3 v46 v50 v52) Q) := by
  rw [k0_part11_eq_skeleton]
  unfold k0_part11_skel
  simp only [at', semSignalWord, semWaitWord, Prog.lift, Prog.bind_op, Prog.bind_ret, Prog.pure_eq_ret, wp_deviceId]
  iintro #HC Hpr Hac Hd Hr Ht HO Hk
  iapply (wait_step m K c (.s1r 1 0) (sends.drop 5) 2 rfl (by decide) (pay_s1r m c 1 0) rfl ?_) $$ HC Hpr HO
  · rfl
  iintro ⟨Hs, Hz, HO⟩
  iapply (load_step c (off8_3 c)) $$ Hac; iintro Hac
  iapply (load_slot_step c (by decide) _ rfl) $$ Hs; iintro Hs
  ihave Hac := (owns_some c) $$ Hac
  iapply (put_step c (off8_3 c) (sum1 m c 1) ?_) $$ Hac
  · exact plus_19 _ _
  iintro Hac
  iapply (send_step m K c (.s2s 1) (.s2r 1) (p2 1 c) (sends.drop 5) (sends.drop 6) (acc (x3 c) 1) (s2B 1) rfl rfl (dev8' c) (slice_congr (off9_3 c)) rfl rfl rfl rfl rfl (X := sum1 m c 1) .rfl (to_s2r m c 1)) $$ HC Hac Hd Hr Ht HO
  iintro ⟨Hp, HO⟩
  ihave Hpr := (to_past m c (.s1r 1 0) (pay_s1r m c 1 0)) $$ Hs Hz
  iapply ret_step
  iapply Hk $$ Hpr Hp HO

/-- The second arrivals, of the device's own chunk, are added. -/
theorem part12 (c : Dev nD) (v2 v4 v48 : BitVec 32) {Q : (Σ' (v362 : FVec F S384x768 .bf16), BitVec 32) → sProp (MT nD τ sig Unit (Elt F) ℕ UU ℕ)} :
    ctx m K ⊢ iprop(pend c (.s1r 0 1)
      -∗ owns (c : Thread nD τ) (acc c 0) fullShare (part m c c 0)
      -∗ pend c (.s1r 1 1)
      -∗ owns (c : Thread nD τ) (acc c 1) fullShare (part m c c 1)
      -∗ owing c (sends.drop 6)
      -∗ (∀ w, past m c (.s1r 0 1)
        -∗ past m c (.s1r 1 1)
        -∗ owns (c : Thread nD τ) (acc c 0) fullShare (sum0 m c 0)
        -∗ owns (c : Thread nD τ) (acc c 1) fullShare (part m c c 1)
        -∗ owing c (sends.drop 6) -∗ Q ⟨k0_pay21 (part m c c 1) (lift4 (part m (p1 1 c) c 1)), w⟩)
      -∗ wpD c (at' (k0_part12 (F := F)) c v2 v4 v48) Q) := by
  rw [k0_part12_eq_skeleton]
  unfold k0_part12_skel
  simp only [at', semSignalWord, semWaitWord, Prog.lift, Prog.bind_op, Prog.bind_ret, Prog.pure_eq_ret, wp_deviceId]
  iintro #HC Hpr0 Hac0 Hpr1 Hac1 HO Hk
  iapply (wait_step m K c (.s1r 0 1) (sends.drop 6) 2 rfl (by decide) (pay_s1r m c 0 1) rfl ?_) $$ HC Hpr0 HO
  · rfl
  iintro ⟨Hs, Hz, HO⟩
  iapply (load_step c (off11' c)) $$ Hac0; iintro Hac0
  iapply (load_slot_step c (by decide) _ rfl) $$ Hs; iintro Hs
  ihave Hac0 := (owns_some c) $$ Hac0
  iapply (put_step c (off11' c) (sum0 m c 0) ?_) $$ Hac0
  · exact plus_20 _ _
  iintro Hac0
  ihave Hpr0 := (to_past m c (.s1r 0 1) (pay_s1r m c 0 1)) $$ Hs Hz
  iapply (wait_step m K c (.s1r 1 1) (sends.drop 6) 2 rfl (by decide) (pay_s1r m c 1 1) rfl ?_) $$ HC Hpr1 HO
  · rfl
  iintro ⟨Hs, Hz, HO⟩
  iapply (load_step c (off12' c)) $$ Hac1; iintro Hac1
  iapply (load_slot_step c (by decide) (lift4 (part m (p1 1 c) c 1)) ?_) $$ Hs
  · rfl
  iintro Hs
  ihave Hpr1 := (to_past m c (.s1r 1 1) (pay_s1r m c 1 1)) $$ Hs Hz
  iapply ret_step
  iapply Hk $$ Hpr0 Hpr1 Hac0 Hac1 HO

/-- The first half of the device's own chunk is complete. -/
theorem part13 (c : Dev nD) (v2 v4 v51 v363 : BitVec 32) {Q : (PUnit) → sProp (MT nD τ sig Unit (Elt F) ℕ UU ℕ)} :
    ctx m K ⊢ iprop(owns (c : Thread nD τ) (acc c 1) fullShare (part m c c 1)
      -∗ pend c (.s2r 0)
      -∗ owns (c : Thread nD τ) (acc c 0) fullShare (sum0 m c 0)
      -∗ owing c (sends.drop 6)
      -∗ (past m c (.s2r 0)
        -∗ owns (c : Thread nD τ) (acc c 0) fullShare (red m c 0)
        -∗ owns (c : Thread nD τ) (acc c 1) fullShare (sum0 m c 1)
        -∗ owing c (sends.drop 6) -∗ Q ⟨⟩)
      -∗ wpD c (at' (k0_part13 (F := F)) c v2 v4 v51 (k0_pay21 (part m c c 1) (lift4 (part m (p1 1 c) c 1))) v363) Q) := by
  rw [k0_part13_eq_skeleton]
  unfold k0_part13_skel
  simp only [at', semSignalWord, semWaitWord, Prog.lift, Prog.bind_op, Prog.bind_ret, Prog.pure_eq_ret, wp_deviceId]
  iintro #HC Hac1 Hpr Hac0 HO Hk
  ihave Hac1 := (owns_some c) $$ Hac1
  iapply (put_step c (off12' c) (sum0 m c 1) ?_) $$ Hac1
  · exact plus_22 _ _
  iintro Hac1
  iapply (wait_step m K c (.s2r 0) (sends.drop 6) 3 rfl (by decide) (pay_s2r m c 0) rfl ?_) $$ HC Hpr HO
  · rfl
  iintro ⟨Hs, Hz, HO⟩
  iapply (load_step c (off11' c)) $$ Hac0; iintro Hac0
  iapply (load_slot_step c (by decide) _ rfl) $$ Hs; iintro Hs
  ihave Hac0 := (owns_some c) $$ Hac0
  iapply (put_step c (off11' c) (red m c 0) ?_) $$ Hac0
  · exact pos_23 _ _
  iintro Hac0
  ihave Hpr := (to_past m c (.s2r 0) (pay_s2r m c 0)) $$ Hs Hz
  iapply ret_step
  iapply Hk $$ Hpr Hac0 Hac1 HO

/-- It is sent to both partners; the second half's last arrival. -/
theorem part14 (c : Dev nD) (v2 v3 v52 : BitVec 32) {Q : (Σ' (v422 : FVec F S384x768 .bf16), FVec F S384x768 .bf16) → sProp (MT nD τ sig Unit (Elt F) ℕ UU ℕ)} :
    ctx m K ⊢ iprop(owns (c : Thread nD τ) (acc c 0) fullShare (red m c 0)
      -∗ some' (p2 0 c) (g1B 0)
      -∗ ready c (.g1s 0)
      -∗ tok (p2 0 c) (.g1r 0)
      -∗ some' (p1 0 c) (g2B 0 0)
      -∗ ready c (.g2s 0 0)
      -∗ tok (p1 0 c) (.g2r 0 0)
      -∗ owing c (sends.drop 6)
      -∗ pend c (.s2r 1)
      -∗ owns (c : Thread nD τ) (acc c 1) fullShare (sum0 m c 1)
      -∗ (pend c (.g1s 0)
        -∗ pend c (.g2s 0 0)
        -∗ past m c (.s2r 1)
        -∗ owns (c : Thread nD τ) (acc c 0) fullShare.right.right (red m c 0)
        -∗ owns (c : Thread nD τ) (acc c 1) fullShare (sum0 m c 1)
        -∗ owing c (sends.drop 8) -∗ Q ⟨k0_pay24 (sum0 m c 1) (lift3 (sum1 m (p2 1 c) 1)), k0_pay25⟩)
      -∗ wpD c (at' (k0_part14 (F := F)) c v2 v3 v52) Q) := by
  rw [k0_part14_eq_skeleton]
  unfold k0_part14_skel
  simp only [at', semSignalWord, semWaitWord, Prog.lift, Prog.bind_op, Prog.bind_ret, Prog.pure_eq_ret, wp_deviceId]
  iintro #HC Hac Hd1 Hr1 Ht1 Hd2 Hr2 Ht2 HO Hpr Hac1 Hk
  ihave Hac := (owns_halves (c : Thread nD τ) (acc c 0) fullShare _).1 $$ Hac
  icases Hac with ⟨HL, Hac⟩
  ihave Hac := (owns_halves (c : Thread nD τ) (acc c 0) fullShare.right _).1 $$ Hac
  icases Hac with ⟨HM, Hac⟩
  iapply (send_step m K c (.g1s 0) (.g1r 0) (p2 0 c) (sends.drop 6) (sends.drop 7) (acc c 0) (g1B 0) rfl rfl (dev9' c) (slice_congr (off13' c)) rfl rfl rfl rfl rfl (X := red m c 0) .rfl (to_g1r m c 0)) $$ HC HL Hd1 Hr1 Ht1 HO
  iintro ⟨Hp1, HO⟩
  iapply (send_step m K c (.g2s 0 0) (.g2r 0 0) (p1 0 c) (sends.drop 7) (sends.drop 8) (acc c 0) (g2B 0 0) rfl rfl (dev10' c) (slice_congr (off13' c)) rfl rfl rfl rfl rfl (X := red m c 0) .rfl (to_g2r m (src00 c))) $$ HC HM Hd2 Hr2 Ht2 HO
  iintro ⟨Hp2, HO⟩
  iapply (wait_step m K c (.s2r 1) (sends.drop 8) 3 rfl (by decide) (pay_s2r m c 1) rfl ?_) $$ HC Hpr HO
  · rfl
  iintro ⟨Hs, Hz, HO⟩
  iapply (load_step c (off12' c)) $$ Hac1; iintro Hac1
  iapply (load_slot_step c (by decide) (lift3 (sum1 m (p2 1 c) 1)) ?_) $$ Hs
  · rfl
  iintro Hs
  ihave Hpr := (to_past m c (.s2r 1) (pay_s2r m c 1)) $$ Hs Hz
  iapply ret_step
  iapply Hk $$ Hp1 Hp2 Hpr Hac Hac1 HO

/-- The second half is complete and sent; the device's rows are read. -/
theorem part15 (c : Dev nD) (v2 v3 v4 : BitVec 32) {Q : (Σ' (v453 : FVec F S384x1536 .f32), BitVec 32) → sProp (MT nD τ sig Unit (Elt F) ℕ UU ℕ)} :
    ctx m K ⊢ iprop(owns (c : Thread nD τ) (acc c 1) fullShare (sum0 m c 1)
      -∗ some' (p2 1 c) (g1B 1)
      -∗ ready c (.g1s 1)
      -∗ tok (p2 1 c) (.g1r 1)
      -∗ some' (p1 1 c) (g2B 1 0)
      -∗ ready c (.g2s 1 0)
      -∗ tok (p1 1 c) (.g2r 1 0)
      -∗ owing c (sends.drop 8)
      -∗ owns (c : Thread nD τ) (acc c 0) fullShare.right.right (red m c 0)
      -∗ (∀ w, pend c (.g1s 1)
        -∗ pend c (.g2s 1 0)
        -∗ owns (c : Thread nD τ) (accr c) fullShare.right.right (rowOf (red m c 0) (red m c 1))
        -∗ owing c (sends.drop 10) -∗ Q ⟨k0_pay27 (rowOf (red m c 0) (red m c 1)), w⟩)
      -∗ wpD c (at' (k0_part15 (F := F)) c v2 v3 v4 (k0_pay24 (sum0 m c 1) (lift3 (sum1 m (p2 1 c) 1))) k0_pay25) Q) := by
  rw [k0_part15_eq_skeleton]
  unfold k0_part15_skel
  simp only [at', semSignalWord, semWaitWord, Prog.lift, Prog.bind_op, Prog.bind_ret, Prog.pure_eq_ret, wp_deviceId]
  iintro #HC Hac Hd1 Hr1 Ht1 Hd2 Hr2 Ht2 HO Hac0 Hk
  ihave Hac := (owns_some c) $$ Hac
  iapply (put_step c (off12' c) (red m c 1) ?_) $$ Hac
  · exact pos_26 _ _
  iintro Hac
  ihave Hac := (owns_halves (c : Thread nD τ) (acc c 1) fullShare _).1 $$ Hac
  icases Hac with ⟨HL, Hac⟩
  ihave Hac := (owns_halves (c : Thread nD τ) (acc c 1) fullShare.right _).1 $$ Hac
  icases Hac with ⟨HM, Hac⟩
  iapply (send_step m K c (.g1s 1) (.g1r 1) (p2 1 c) (sends.drop 8) (sends.drop 9) (acc c 1) (g1B 1) rfl rfl (dev11' c) (slice_congr (off14' c)) rfl rfl rfl rfl rfl (X := red m c 1) .rfl (to_g1r m c 1)) $$ HC HL Hd1 Hr1 Ht1 HO
  iintro ⟨Hp1, HO⟩
  iapply (send_step m K c (.g2s 1 0) (.g2r 1 0) (p1 1 c) (sends.drop 9) (sends.drop 10) (acc c 1) (g2B 1 0) rfl rfl (dev12' c) (slice_congr (off14' c)) rfl rfl rfl rfl rfl (X := red m c 1) .rfl (to_g2r m (src10 c))) $$ HC HM Hd2 Hr2 Ht2 HO
  iintro ⟨Hp2, HO⟩
  ihave Hrow := (owns_row c (Memref.whole cc0_scratch4) c _ _ _).2 $$ [Hac0 Hac]
  · iframe
  iapply (load_step c (off15' c)) $$ Hrow; iintro Hrow
  iapply ret_step
  iapply Hk $$ Hp1 Hp2 Hrow HO

/-- The device's rows of the result are stored; the first half from the partner arrives and is sent on. -/
theorem part16 (c : Dev nD) (v2 v3 v4 v454 : BitVec 32) {Q : (PUnit) → sProp (MT nD τ sig Unit (Elt F) ℕ UU ℕ)} :
    ctx m K ⊢ iprop(some' c (oVr c)
      -∗ some' c (oHr c)
      -∗ ready c .own
      -∗ pend c (.g1r 0)
      -∗ some' (p1 0 c) (g2B 0 1)
      -∗ ready c (.g2s 0 1)
      -∗ tok (p1 0 c) (.g2r 0 1)
      -∗ owing c (sends.drop 10)
      -∗ (pend c .own
        -∗ pend c (.g2s 0 1)
        -∗ owns (c : Thread nD τ) (g1B 0) fullShare.right (red m (p2 0 c) 0)
        -∗ shut c (.g1r 0)
        -∗ owing c (sends.drop 11) -∗ Q ⟨⟩)
      -∗ wpD c (at' (k0_part16 (F := F)) c v2 v3 v4 (k0_pay27 (rowOf (red m c 0) (red m c 1))) v454) Q) := by
  rw [k0_part16_eq_skeleton]
  unfold k0_part16_skel
  simp only [at', semSignalWord, semWaitWord, Prog.lift, Prog.bind_op, Prog.bind_ret, Prog.pure_eq_ret, wp_deviceId]
  iintro #HC Ho Hh Hro Hpr Hd Hr Ht HO Hk
  iapply (put_step c (off15' c) (rowOf (fin m c 0) (fin m c 1)) ?_) $$ Ho
  · exact wide_row _ _
  iintro Ho
  iapply (copy_step m K c .own (oVr c) (oHr c) (slice_congr (off16' c)) (slice_congr (off16' c)) rfl rfl .rfl) $$ HC Ho Hh Hro
  iintro Hpo
  iapply (wait_step m K c (.g1r 0) (sends.drop 10) 4 rfl (by decide) (pay_g1r m c 0) rfl ?_) $$ HC Hpr HO
  · rfl
  iintro ⟨Hs, Hz, HO⟩
  ihave Hs := (owns_halves (c : Thread nD τ) (g1B 0) fullShare _).1 $$ Hs
  icases Hs with ⟨HL, Hs⟩
  iapply (send_step m K c (.g2s 0 1) (.g2r 0 1) (p1 0 c) (sends.drop 10) (sends.drop 11) (g1B 0) (g2B 0 1) rfl rfl (dev13' c) rfl rfl rfl rfl rfl rfl (X := red m (p2 0 c) 0) .rfl (to_g2r m (src01 c))) $$ HC HL Hd Hr Ht HO
  iintro ⟨Hp, HO⟩
  iapply ret_step
  iapply Hk $$ Hpo Hp Hs Hz HO

/-- That chunk of the result is stored; the second half from the other partner arrives. -/
theorem part17 (c : Dev nD) (v2 v3 v4 : BitVec 32) {Q : (PUnit) → sProp (MT nD τ sig Unit (Elt F) ℕ UU ℕ)} :
    ctx m K ⊢ iprop(owns (c : Thread nD τ) (g1B 0) fullShare.right (red m (p2 0 c) 0)
      -∗ some' c (oV (x1 c) 0)
      -∗ some' c (oH (x1 c) 0)
      -∗ ready c (.wb 0 0)
      -∗ pend c (.g1r 1)
      -∗ owing c (sends.drop 11)
      -∗ (owns (c : Thread nD τ) (g1B 0) fullShare.right (red m (p2 0 c) 0)
        -∗ pend c (.wb 0 0)
        -∗ owns (c : Thread nD τ) (g1B 1) fullShare (red m (p2 1 c) 1)
        -∗ shut c (.g1r 1)
        -∗ owing c (sends.drop 11) -∗ Q ⟨⟩)
      -∗ wpD c (at' (k0_part17 (F := F)) c v2 v3 v4) Q) := by
  rw [k0_part17_eq_skeleton]
  unfold k0_part17_skel
  simp only [at', semSignalWord, semWaitWord, Prog.lift, Prog.bind_op, Prog.bind_ret, Prog.pure_eq_ret, wp_deviceId]
  iintro #HC Hs Ho Hh Hrw Hpr HO Hk
  iapply (load_slot_step c (by decide) _ rfl) $$ Hs; iintro Hs
  iapply (put_step c (off6_1 c) (fin m (x1 c) 0) ?_) $$ Ho
  · exact wide_29 _
  iintro Ho
  iapply (copy_step m K c (.wb 0 0) (oV (x1 c) 0) (oH (x1 c) 0) (slice_congr (off7_1 c)) (slice_congr (off7_1 c)) rfl rfl (X := fin m (x1 c) 0) .rfl) $$ HC Ho Hh Hrw
  iintro Hpw
  iapply (wait_step m K c (.g1r 1) (sends.drop 11) 4 rfl (by decide) (pay_g1r m c 1) rfl ?_) $$ HC Hpr HO
  · rfl
  iintro ⟨Hg, Hz, HO⟩
  iapply ret_step
  iapply Hk $$ Hs Hpw Hg Hz HO

/-- It is sent on, and that chunk of the result stored. -/
theorem part18 (c : Dev nD) (v2 v3 : BitVec 32) {Q : (PUnit) → sProp (MT nD τ sig Unit (Elt F) ℕ UU ℕ)} :
    ctx m K ⊢ iprop(owns (c : Thread nD τ) (g1B 1) fullShare (red m (p2 1 c) 1)
      -∗ some' (p1 1 c) (g2B 1 1)
      -∗ ready c (.g2s 1 1)
      -∗ tok (p1 1 c) (.g2r 1 1)
      -∗ owing c (sends.drop 11)
      -∗ some' c (oV (x3 c) 1)
      -∗ some' c (oH (x3 c) 1)
      -∗ ready c (.wb 1 0)
      -∗ (pend c (.g2s 1 1)
        -∗ owns (c : Thread nD τ) (g1B 1) fullShare.right (red m (p2 1 c) 1)
        -∗ pend c (.wb 1 0)
        -∗ owing c (sends.drop 12) -∗ Q ⟨⟩)
      -∗ wpD c (at' (k0_part18 (F := F)) c v2 v3) Q) := by
  rw [k0_part18_eq_skeleton]
  unfold k0_part18_skel
  simp only [at', semSignalWord, semWaitWord, Prog.lift, Prog.bind_op, Prog.bind_ret, Prog.pure_eq_ret, wp_deviceId]
  iintro #HC Hs Hd Hr Ht HO Ho Hh Hrw Hk
  ihave Hs := (owns_halves (c : Thread nD τ) (g1B 1) fullShare _).1 $$ Hs
  icases Hs with ⟨HL, Hs⟩
  iapply (send_step m K c (.g2s 1 1) (.g2r 1 1) (p1 1 c) (sends.drop 11) (sends.drop 12) (g1B 1) (g2B 1 1) rfl rfl (dev14' c) rfl rfl rfl rfl rfl rfl (X := red m (p2 1 c) 1) .rfl (to_g2r m (src11 c))) $$ HC HL Hd Hr Ht HO
  iintro ⟨Hp, HO⟩
  iapply (load_slot_step c (by decide) _ rfl) $$ Hs; iintro Hs
  iapply (put_step c (off8_3 c) (fin m (x3 c) 1) ?_) $$ Ho
  · exact wide_30 _
  iintro Ho
  iapply (copy_step m K c (.wb 1 0) (oV (x3 c) 1) (oH (x3 c) 1) (slice_congr (off9_3 c)) (slice_congr (off9_3 c)) rfl rfl (X := fin m (x3 c) 1) .rfl) $$ HC Ho Hh Hrw
  iintro Hpw
  iapply ret_step
  iapply Hk $$ Hp Hs Hpw HO

/-- The first arrivals of the last step. -/
theorem part19 (c : Dev nD) (v2 v4 v53 v55 : BitVec 32) {Q : (FVec F S384x768 .f32) → sProp (MT nD τ sig Unit (Elt F) ℕ UU ℕ)} :
    ctx m K ⊢ iprop(pend c (.g2r 0 0)
      -∗ some' c (oV (x3 c) 0)
      -∗ some' c (oH (x3 c) 0)
      -∗ ready c (.wb 0 1)
      -∗ pend c (.g2r 1 0)
      -∗ owing c (sends.drop 12)
      -∗ (past m c (.g2r 0 0)
        -∗ pend c (.wb 0 1)
        -∗ past m c (.g2r 1 0)
        -∗ owing c (sends.drop 12) -∗ Q (k0_pay32 (lift4 (red m (p1 1 c) 1))))
      -∗ wpD c (at' (k0_part19 (F := F)) c v2 v4 v53 v55) Q) := by
  rw [k0_part19_eq_skeleton]
  unfold k0_part19_skel
  simp only [at', semSignalWord, semWaitWord, Prog.lift, Prog.bind_op, Prog.bind_ret, Prog.pure_eq_ret, wp_deviceId]
  iintro #HC Hpr Ho Hh Hrw Hpq HO Hk
  iapply (wait_step m K c (.g2r 0 0) (sends.drop 12) 5 rfl (by decide) (pay_g2r m c 0 0) rfl ?_) $$ HC Hpr HO
  · rfl
  iintro ⟨Hs, Hz, HO⟩
  iapply (load_slot_step c (by decide) _ rfl) $$ Hs; iintro Hs
  iapply (put_step c (off6_3 c) (fin m (x3 c) 0) ?_) $$ Ho
  · exact wide_31 _
  iintro Ho
  iapply (copy_step m K c (.wb 0 1) (oV (x3 c) 0) (oH (x3 c) 0) (slice_congr (off7_3 c)) (slice_congr (off7_3 c)) rfl rfl (X := fin m (x3 c) 0) .rfl) $$ HC Ho Hh Hrw
  iintro Hpw
  ihave Hpr := (to_past m c (.g2r 0 0) (pay_g2r m c 0 0)) $$ Hs Hz
  iapply (wait_step m K c (.g2r 1 0) (sends.drop 12) 5 rfl (by decide) (pay_g2r m c 1 0) rfl ?_) $$ HC Hpq HO
  · rfl
  iintro ⟨Hs, Hz, HO⟩
  iapply (load_slot_step c (by decide) (lift4 (red m (p1 1 c) 1)) ?_) $$ Hs
  · rfl
  iintro Hs
  ihave Hpq := (to_past m c (.g2r 1 0) (pay_g2r m c 1 0)) $$ Hs Hz
  iapply ret_step
  iapply Hk $$ Hpr Hpw Hpq HO

/-- Its chunk is stored; the second arrivals. -/
theorem part20 (c : Dev nD) (v3 v54 v55 : BitVec 32) {Q : (PUnit) → sProp (MT nD τ sig Unit (Elt F) ℕ UU ℕ)} :
    ctx m K ⊢ iprop(some' c (oV (x1 c) 1)
      -∗ some' c (oH (x1 c) 1)
      -∗ ready c (.wb 1 1)
      -∗ pend c (.g2r 0 1)
      -∗ some' c (oV (x2 c) 0)
      -∗ owing c (sends.drop 12)
      -∗ (pend c (.wb 1 1)
        -∗ past m c (.g2r 0 1)
        -∗ owns (c : Thread nD τ) (oV (x2 c) 0) fullShare (fin m (x2 c) 0)
        -∗ owing c (sends.drop 12) -∗ Q ⟨⟩)
      -∗ wpD c (at' (k0_part20 (F := F)) c v3 v54 v55 (k0_pay32 (lift4 (red m (p1 1 c) 1)))) Q) := by
  rw [k0_part20_eq_skeleton]
  unfold k0_part20_skel
  simp only [at', semSignalWord, semWaitWord, Prog.lift, Prog.bind_op, Prog.bind_ret, Prog.pure_eq_ret, wp_deviceId]
  iintro #HC Ho Hh Hrw Hpr Ho2 HO Hk
  iapply (put_step c (off8_1 c) (fin m (x1 c) 1) ?_) $$ Ho
  · exact wide_33 _
  iintro Ho
  iapply (copy_step m K c (.wb 1 1) (oV (x1 c) 1) (oH (x1 c) 1) (slice_congr (off9_1 c)) (slice_congr (off9_1 c)) rfl rfl (X := fin m (x1 c) 1) .rfl) $$ HC Ho Hh Hrw
  iintro Hpw
  iapply (wait_step m K c (.g2r 0 1) (sends.drop 12) 5 rfl (by decide) (pay_g2r m c 0 1) rfl ?_) $$ HC Hpr HO
  · rfl
  iintro ⟨Hs, Hz, HO⟩
  iapply (load_slot_step c (by decide) _ rfl) $$ Hs; iintro Hs
  iapply (put_step c (off6_2 c) (fin m (x2 c) 0) ?_) $$ Ho2
  · exact wide_34 _
  iintro Ho2
  ihave Hpr := (to_past m c (.g2r 0 1) (pay_g2r m c 0 1)) $$ Hs Hz
  iapply ret_step
  iapply Hk $$ Hpw Hpr Ho2 HO

/-- The last two chunks are stored. -/
theorem part21 (c : Dev nD) (v4 v45 v56 : BitVec 32) {Q : (PUnit) → sProp (MT nD τ sig Unit (Elt F) ℕ UU ℕ)} :
    ctx m K ⊢ iprop(owns (c : Thread nD τ) (oV (x2 c) 0) fullShare (fin m (x2 c) 0)
      -∗ some' c (oH (x2 c) 0)
      -∗ ready c (.wb 0 2)
      -∗ pend c (.g2r 1 1)
      -∗ some' c (oV (x2 c) 1)
      -∗ some' c (oH (x2 c) 1)
      -∗ ready c (.wb 1 2)
      -∗ owing c (sends.drop 12)
      -∗ (pend c (.wb 0 2)
        -∗ past m c (.g2r 1 1)
        -∗ pend c (.wb 1 2)
        -∗ owing c (sends.drop 12) -∗ Q ⟨⟩)
      -∗ wpD c (at' (k0_part21 (F := F)) c v4 v45 v56) Q) := by
  rw [k0_part21_eq_skeleton]
  unfold k0_part21_skel
  simp only [at', semSignalWord, semWaitWord, Prog.lift, Prog.bind_op, Prog.bind_ret, Prog.pure_eq_ret, wp_deviceId]
  iintro #HC Ho2 Hh2 Hrw2 Hpr Ho Hh Hrw HO Hk
  iapply (copy_step m K c (.wb 0 2) (oV (x2 c) 0) (oH (x2 c) 0) (slice_congr (off7_2 c)) (slice_congr (off7_2 c)) rfl rfl (X := fin m (x2 c) 0) .rfl) $$ HC Ho2 Hh2 Hrw2
  iintro Hpw2
  iapply (wait_step m K c (.g2r 1 1) (sends.drop 12) 5 rfl (by decide) (pay_g2r m c 1 1) rfl ?_) $$ HC Hpr HO
  · rfl
  iintro ⟨Hs, Hz, HO⟩
  iapply (load_slot_step c (by decide) _ rfl) $$ Hs; iintro Hs
  iapply (put_step c (off8_2 c) (fin m (x2 c) 1) ?_) $$ Ho
  · exact wide_35 _
  iintro Ho
  iapply (copy_step m K c (.wb 1 2) (oV (x2 c) 1) (oH (x2 c) 1) (slice_congr (off9_2 c)) (slice_congr (off9_2 c)) rfl rfl (X := fin m (x2 c) 1) .rfl) $$ HC Ho Hh Hrw
  iintro Hpw
  ihave Hpr := (to_past m c (.g2r 1 1) (pay_g2r m c 1 1)) $$ Hs Hz
  iapply ret_step
  iapply Hk $$ Hpw2 Hpr Hpw HO

/-- The sends have all been received: first -/
theorem part22 (c : Dev nD) (v2 v46 v51 : BitVec 32) {Q : (PUnit) → sProp (MT nD τ sig Unit (Elt F) ℕ UU ℕ)} :
    ctx m K ⊢ iprop(pend c (.s1s 0 0)
      -∗ pend c (.s1s 0 1)
      -∗ pend c (.s2s 0)
      -∗ owing c (sends.drop 12)
      -∗ (past m c (.s1s 0 0)
        -∗ past m c (.s1s 0 1)
        -∗ past m c (.s2s 0)
        -∗ owing c (sends.drop 12) -∗ Q ⟨⟩)
      -∗ wpD c (at' (k0_part22 (F := F)) c v2 v46 v51) Q) := by
  rw [k0_part22_eq_skeleton]
  unfold k0_part22_skel
  simp only [at', semSignalWord, semWaitWord, Prog.lift, Prog.bind_op, Prog.bind_ret, Prog.pure_eq_ret, wp_deviceId]
  iintro #HC H0 H1 H2 HO Hk
  iapply (wait_step m K c (.s1s 0 0) (sends.drop 12) 0 rfl (by decide) rfl rfl ?_) $$ HC H0 HO
  · rfl
  iintro ⟨Hp, Hz, HO⟩
  ihave H0 := (to_past m c (.s1s 0 0) rfl) $$ Hp Hz
  iapply (wait_step m K c (.s1s 0 1) (sends.drop 12) 0 rfl (by decide) rfl rfl ?_) $$ HC H1 HO
  · rfl
  iintro ⟨Hp, Hz, HO⟩
  ihave H1 := (to_past m c (.s1s 0 1) rfl) $$ Hp Hz
  iapply (wait_step m K c (.s2s 0) (sends.drop 12) 0 rfl (by decide) rfl rfl ?_) $$ HC H2 HO
  · rfl
  iintro ⟨Hp, Hz, HO⟩
  ihave H2 := (to_past m c (.s2s 0) rfl) $$ Hp Hz
  iapply ret_step
  iapply Hk $$ H0 H1 H2 HO

/-- then -/
theorem part23 (c : Dev nD) (v2 v47 : BitVec 32) {Q : (BitVec 32) → sProp (MT nD τ sig Unit (Elt F) ℕ UU ℕ)} :
    ctx m K ⊢ iprop(pend c (.g1s 0)
      -∗ pend c (.g2s 0 0)
      -∗ pend c (.g2s 0 1)
      -∗ pend c (.s1s 1 0)
      -∗ owing c (sends.drop 12)
      -∗ (∀ w, past m c (.g1s 0)
        -∗ past m c (.g2s 0 0)
        -∗ past m c (.g2s 0 1)
        -∗ past m c (.s1s 1 0)
        -∗ owing c (sends.drop 12) -∗ Q w)
      -∗ wpD c (at' (k0_part23 (F := F)) c v2 v47) Q) := by
  rw [k0_part23_eq_skeleton]
  unfold k0_part23_skel
  simp only [at', semSignalWord, semWaitWord, Prog.lift, Prog.bind_op, Prog.bind_ret, Prog.pure_eq_ret, wp_deviceId]
  iintro #HC H0 H1 H2 H3 HO Hk
  iapply (wait_step m K c (.g1s 0) (sends.drop 12) 0 rfl (by decide) rfl rfl ?_) $$ HC H0 HO
  · rfl
  iintro ⟨Hp, Hz, HO⟩
  ihave H0 := (to_past m c (.g1s 0) rfl) $$ Hp Hz
  iapply (wait_step m K c (.g2s 0 0) (sends.drop 12) 0 rfl (by decide) rfl rfl ?_) $$ HC H1 HO
  · rfl
  iintro ⟨Hp, Hz, HO⟩
  ihave H1 := (to_past m c (.g2s 0 0) rfl) $$ Hp Hz
  iapply (wait_step m K c (.g2s 0 1) (sends.drop 12) 0 rfl (by decide) rfl rfl ?_) $$ HC H2 HO
  · rfl
  iintro ⟨Hp, Hz, HO⟩
  ihave H2 := (to_past m c (.g2s 0 1) rfl) $$ Hp Hz
  iapply (wait_step m K c (.s1s 1 0) (sends.drop 12) 0 rfl (by decide) rfl rfl ?_) $$ HC H3 HO
  · rfl
  iintro ⟨Hp, Hz, HO⟩
  ihave H3 := (to_past m c (.s1s 1 0) rfl) $$ Hp Hz
  iapply ret_step
  iapply Hk $$ H0 H1 H2 H3 HO

/-- then -/
theorem part24 (c : Dev nD) (v2 v48 v52 c384_i32_625 : BitVec 32) {Q : (PUnit) → sProp (MT nD τ sig Unit (Elt F) ℕ UU ℕ)} :
    ctx m K ⊢ iprop(pend c (.s1s 1 1)
      -∗ pend c (.s2s 1)
      -∗ pend c (.g1s 1)
      -∗ owing c (sends.drop 12)
      -∗ (past m c (.s1s 1 1)
        -∗ past m c (.s2s 1)
        -∗ past m c (.g1s 1)
        -∗ owing c (sends.drop 12) -∗ Q ⟨⟩)
      -∗ wpD c (at' (k0_part24 (F := F)) c v2 v48 v52 c384_i32_625) Q) := by
  rw [k0_part24_eq_skeleton]
  unfold k0_part24_skel
  simp only [at', semSignalWord, semWaitWord, Prog.lift, Prog.bind_op, Prog.bind_ret, Prog.pure_eq_ret, wp_deviceId]
  iintro #HC H0 H1 H2 HO Hk
  iapply (wait_step m K c (.s1s 1 1) (sends.drop 12) 0 rfl (by decide) rfl rfl ?_) $$ HC H0 HO
  · rfl
  iintro ⟨Hp, Hz, HO⟩
  ihave H0 := (to_past m c (.s1s 1 1) rfl) $$ Hp Hz
  iapply (wait_step m K c (.s2s 1) (sends.drop 12) 0 rfl (by decide) rfl rfl ?_) $$ HC H1 HO
  · rfl
  iintro ⟨Hp, Hz, HO⟩
  ihave H1 := (to_past m c (.s2s 1) rfl) $$ Hp Hz
  iapply (wait_step m K c (.g1s 1) (sends.drop 12) 0 rfl (by decide) rfl rfl ?_) $$ HC H2 HO
  · rfl
  iintro ⟨Hp, Hz, HO⟩
  ihave H2 := (to_past m c (.g1s 1) rfl) $$ Hp Hz
  iapply ret_step
  iapply Hk $$ H0 H1 H2 HO

/-- the last of them, and the first stores of the result. -/
theorem part25 (c : Dev nD) {Q : (PUnit) → sProp (MT nD τ sig Unit (Elt F) ℕ UU ℕ)} :
    ctx m K ⊢ iprop(pend c (.g2s 1 0)
      -∗ pend c (.g2s 1 1)
      -∗ pend c (.wb 0 0)
      -∗ pend c (.wb 1 0)
      -∗ pend c (.wb 0 1)
      -∗ pend c (.wb 1 1)
      -∗ owing c (sends.drop 12)
      -∗ (past m c (.g2s 1 0)
        -∗ past m c (.g2s 1 1)
        -∗ past m c (.wb 0 0)
        -∗ past m c (.wb 1 0)
        -∗ past m c (.wb 0 1)
        -∗ past m c (.wb 1 1)
        -∗ owing c (sends.drop 12) -∗ Q ⟨⟩)
      -∗ wpD c (at' (k0_part25 (F := F)) c) Q) := by
  rw [k0_part25_eq_skeleton]
  unfold k0_part25_skel
  simp only [at', semSignalWord, semWaitWord, Prog.lift, Prog.bind_op, Prog.bind_ret, Prog.pure_eq_ret, wp_deviceId]
  iintro #HC H0 H1 H2 H3 H4 H5 HO Hk
  iapply (wait_step m K c (.g2s 1 0) (sends.drop 12) 0 rfl (by decide) rfl rfl ?_) $$ HC H0 HO
  · rfl
  iintro ⟨Hp, Hz, HO⟩
  ihave H0 := (to_past m c (.g2s 1 0) rfl) $$ Hp Hz
  iapply (wait_step m K c (.g2s 1 1) (sends.drop 12) 0 rfl (by decide) rfl rfl ?_) $$ HC H1 HO
  · rfl
  iintro ⟨Hp, Hz, HO⟩
  ihave H1 := (to_past m c (.g2s 1 1) rfl) $$ Hp Hz
  iapply (wait_step m K c (.wb 0 0) (sends.drop 12) 0 rfl (by decide) rfl rfl ?_) $$ HC H2 HO
  · rfl
  iintro ⟨Hp, Hz, HO⟩
  ihave H2 := (to_past m c (.wb 0 0) rfl) $$ Hp Hz
  iapply (wait_step m K c (.wb 1 0) (sends.drop 12) 0 rfl (by decide) rfl rfl ?_) $$ HC H3 HO
  · rfl
  iintro ⟨Hp, Hz, HO⟩
  ihave H3 := (to_past m c (.wb 1 0) rfl) $$ Hp Hz
  iapply (wait_step m K c (.wb 0 1) (sends.drop 12) 0 rfl (by decide) rfl rfl ?_) $$ HC H4 HO
  · rfl
  iintro ⟨Hp, Hz, HO⟩
  ihave H4 := (to_past m c (.wb 0 1) rfl) $$ Hp Hz
  iapply (wait_step m K c (.wb 1 1) (sends.drop 12) 0 rfl (by decide) rfl rfl ?_) $$ HC H5 HO
  · rfl
  iintro ⟨Hp, Hz, HO⟩
  ihave H5 := (to_past m c (.wb 1 1) rfl) $$ Hp Hz
  iapply ret_step
  iapply Hk $$ H0 H1 H2 H3 H4 H5 HO

end Cert.AllReduce
end
-- ==== Proof.Body.lean ====
/-
The whole body on a symbolic device `c`: from its buffers, its cells and what it owes, to what it leaves.
-/
module

public import proofs.«01_k».proof.Proof.Parts

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : Dev nD × SemLoc sig → ℕ)

section
variable (c : Dev nD)

/-- What a device is given of a DMA cell: the wait on it, and the right to raise the cell it raises. -/
def given : Chan → sProp (MT nD τ sig Unit (Elt F) ℕ UU ℕ)
  | .s1r d j => iprop(pend c (.s1r d j) ∗ tok (p1 d c) (.s1r d j))
  | .s2r d => iprop(pend c (.s2r d) ∗ tok (p2 d c) (.s2r d))
  | .g1r d => iprop(pend c (.g1r d) ∗ tok (p2 d c) (.g1r d))
  | .g2r d j => iprop(pend c (.g2r d j) ∗ tok (p1 d c) (.g2r d j))
  | k => ready c k

/-- What it has of the cell in the end: all that was handed over, but for the arrival that it lent to send it on. -/
def after : Chan → sProp (MT nD τ sig Unit (Elt F) ℕ UU ℕ)
  | .g1r d => iprop(owns (c : Thread nD τ) (g1B d) fullShare.right (red m (p2 d c) d) ∗ shut c (.g1r d))
  | k => past m c k

/-- The DMA cells in the order of their numbers, the loads of `A` first the device's own. -/
def chans : List Chan :=
  [.a c, .a (x1 c), .a (x2 c), .a (x3 c), .b 0, .b 1, .own, .wb 0 0, .wb 0 1, .wb 0 2, .wb 1 0, .wb 1 1, .wb 1 2, .s1s 0 0, .s1s 0 1, .s1s 1 0, .s1s 1 1, .s1r 0 0, .s1r 0 1, .s1r 1 0, .s1r 1 1, .s2s 0, .s2s 1, .s2r 0, .s2r 1, .g1s 0, .g1s 1, .g1r 0, .g1r 1, .g2s 0 0, .g2s 0 1, .g2s 1 0, .g2s 1 1, .g2r 0 0, .g2r 0 1, .g2r 1 0, .g2r 1 1]

theorem chans_nodup : ((chans c).map Chan.sem).Nodup := by revert c; decide
theorem chans_all : (Finset.univ : Finset (DmaSem sig)) = ((chans c).map Chan.sem).toFinset := by revert c; decide

/-- A resource of every DMA cell, cell by cell. -/
theorem each_chan (Φ : Chan → sProp (MT nD τ sig Unit (Elt F) ℕ UU ℕ)) :
    (bigSep Finset.univ fun q : DmaSem sig => Φ (chan q)) = iprop(Φ (.a c) ∗ Φ (.a (x1 c)) ∗ Φ (.a (x2 c)) ∗ Φ (.a (x3 c)) ∗ Φ (.b 0) ∗ Φ (.b 1) ∗ Φ .own ∗ Φ (.wb 0 0) ∗ Φ (.wb 0 1) ∗ Φ (.wb 0 2) ∗ Φ (.wb 1 0) ∗ Φ (.wb 1 1) ∗ Φ (.wb 1 2) ∗ Φ (.s1s 0 0) ∗ Φ (.s1s 0 1) ∗ Φ (.s1s 1 0) ∗ Φ (.s1s 1 1) ∗ Φ (.s1r 0 0) ∗ Φ (.s1r 0 1) ∗ Φ (.s1r 1 0) ∗ Φ (.s1r 1 1) ∗ Φ (.s2s 0) ∗ Φ (.s2s 1) ∗ Φ (.s2r 0) ∗ Φ (.s2r 1) ∗ Φ (.g1s 0) ∗ Φ (.g1s 1) ∗ Φ (.g1r 0) ∗ Φ (.g1r 1) ∗ Φ (.g2s 0 0) ∗ Φ (.g2s 0 1) ∗ Φ (.g2s 1 0) ∗ Φ (.g2s 1 1) ∗ Φ (.g2r 0 0) ∗ Φ (.g2r 0 1) ∗ Φ (.g2r 1 0) ∗ Φ (.g2r 1 1)) := by
  rw [bigSep_univ_eq_bigSepL ((chans c).map Chan.sem) (chans_all c) (chans_nodup c)]
  simp only [chans, List.map_cons, List.map_nil, bigSepL_cons_cons, bigSepL_singleton, chan_sem]
  rfl

/-- A resource of every row chunk, the device's own first. -/
theorem each_dev (Φ : Dev nD → sProp (MT nD τ sig Unit (Elt F) ℕ UU ℕ)) :
    bigSep Finset.univ Φ = iprop(Φ c ∗ Φ (x1 c) ∗ Φ (x2 c) ∗ Φ (x3 c)) := by
  rw [bigSep_univ_eq_bigSepL [c, x1 c, x2 c, x3 c] (by revert c; decide) (by revert c; decide)]
  simp only [bigSepL_cons_cons, bigSepL_singleton]
  rfl

/-- A resource of either half. -/
theorem each_half (Φ : Fin 2 → sProp (MT nD τ sig Unit (Elt F) ℕ UU ℕ)) : bigSep Finset.univ Φ = iprop(Φ 0 ∗ Φ 1) := by
  rw [bigSep_univ_eq_bigSepL [0, 1] (by decide) (by decide)]
  simp only [bigSepL_cons_cons, bigSepL_singleton]
  rfl

theorem slots_x3 : slots (F := F) (x3 c) 0 1 = iprop(some' (p1 0 c) (s1B 0 0) ∗ some' (p1 0 c) (s1B 0 1) ∗ some' (p2 1 c) (s2B 1)
    ∗ some' (p2 1 c) (g1B 1) ∗ some' (p1 0 c) (g2B 0 0) ∗ some' (p1 0 c) (g2B 0 1)) := rfl
theorem slots_x1 : slots (F := F) (x1 c) 1 0 = iprop(some' (p1 1 c) (s1B 1 0) ∗ some' (p1 1 c) (s1B 1 1) ∗ some' (p2 0 c) (s2B 0)
    ∗ some' (p2 0 c) (g1B 0) ∗ some' (p1 1 c) (g2B 1 0) ∗ some' (p1 1 c) (g2B 1 1)) := rfl

/-- What the device starts with. -/
def start : sProp (MT nD τ sig Unit (Elt F) ℕ UU ℕ) :=
  iprop((bigSep Finset.univ fun q : DmaSem sig => given c (chan q))
    ∗ (bigSep Finset.univ fun j : Dev nD => iprop(owns (c : Thread nD τ) (aH j) fullShare (aVal m c j) ∗ some' c (aV j) ∗ some' c (aB j)))
    ∗ (bigSep Finset.univ fun d : Fin 2 => iprop(owns (c : Thread nD τ) (bH d) fullShare (bVal m c d) ∗ some' c (bV d) ∗ some' c (bB d)))
    ∗ (bigSep Finset.univ fun j : Dev nD => iprop(some' c (accr j) ∗ some' c (oVr j) ∗ some' c (oHr j)))
    ∗ (∃ W, owes (c : Thread nD τ) (O₀ c) W) ∗ dutyTok ER (barCell (x3 c)) 0 false ∗ dutyTok ER (barCell (x1 c)) 0 true
    ∗ cred (tallyAt (barCell c) () 2) ∗ atPos ER (barCell c) 0 ∅ 0 ∗ barPay (x3 c) false ∗ barPay (x1 c) true)

/-- What it ends with. -/
def finish : sProp (MT nD τ sig Unit (Elt F) ℕ UU ℕ) :=
  iprop((bigSep Finset.univ fun q : DmaSem sig => after m c (chan q))
    ∗ owns (c : Thread nD τ) (accr c) fullShare.right.right (rowOf (red m c 0) (red m c 1))
    ∗ (bigSep Finset.univ fun j : Dev nD => owns (c : Thread nD τ) (aB j) fullShare (aRnd m c j))
    ∗ (bigSep Finset.univ fun d : Fin 2 => owns (c : Thread nD τ) (bB d) fullShare (bRnd m c d))
    ∗ semVal (barCell c) 0 ∗ owing c (sends.drop 12))

theorem bind_step {α β : Type} {p : Prog (TpuEff nD τ sig (Elt F) Λ₀ .tc) α} {f : α → Prog (TpuEff nD τ sig (Elt F) Λ₀ .tc) β}
    {Q : β → sProp (MT nD τ sig Unit (Elt F) ℕ UU ℕ)} : wpD c p (fun x => wpD c (f x) Q) ⊢ wpD c (p >>= f) Q :=
  Entails.of_eq (wp_bind _ _ _ p f Q).symm

end

theorem body (c : Dev nD) {Q : PUnit → sProp (MT nD τ sig Unit (Elt F) ℕ UU ℕ)} :
    ctx m K ⊢ iprop(start m c -∗ (finish m c -∗ Q ⟨⟩) -∗ wpD c (at' (cc0_body (F := F))) Q) := by
  rw [cc0_body_eq_skeleton]
  unfold cc0_body_skel start finish
  rw [each_chan c, each_dev c, each_half, each_dev c, each_chan c, each_dev c, each_half]
  simp only [given, after]
  iintro #HC ⟨⟨H1, H2, H3, H4, H5, H6, H7, H8, H9, H10, H11, H12, H13, H14, H15, H16, H17, ⟨H18, H19⟩, ⟨H20, H21⟩, ⟨H22, H23⟩, ⟨H24, H25⟩, H26, H27, ⟨H28, H29⟩, ⟨H30, H31⟩, H32, H33, ⟨H34, H35⟩, ⟨H36, H37⟩, H38, H39, H40, H41, ⟨H42, H43⟩, ⟨H44, H45⟩, ⟨H46, H47⟩, ⟨H48, H49⟩⟩, ⟨⟨H50, H51, H52⟩, ⟨H53, H54, H55⟩, ⟨H56, H57, H58⟩, ⟨H59, H60, H61⟩⟩, ⟨⟨H62, H63, H64⟩, ⟨H65, H66, H67⟩⟩, ⟨⟨HA0, H68, H69⟩, ⟨HA1, HV1, HO1⟩, ⟨HA2, HV2, HO2⟩, ⟨HA3, HV3, HO3⟩⟩, ⟨%W, H90⟩, H91, H92, H93, H94, H95, H96⟩ HQ
  ihave HA0 := (some_row c (Memref.whole cc0_scratch4) c).1 $$ HA0
  icases HA0 with ⟨H70, H71⟩
  ihave HA1 := (some_row c (Memref.whole cc0_scratch4) (x1 c)).1 $$ HA1
  icases HA1 with ⟨H72, H73⟩
  ihave HV1 := (some_row c (Memref.whole cc0_scratch5) (x1 c)).1 $$ HV1
  icases HV1 with ⟨H74, H75⟩
  ihave HO1 := (some_row c (Memref.whole main_v1) (x1 c)).1 $$ HO1
  icases HO1 with ⟨H76, H77⟩
  ihave HA2 := (some_row c (Memref.whole cc0_scratch4) (x2 c)).1 $$ HA2
  icases HA2 with ⟨H78, H79⟩
  ihave HV2 := (some_row c (Memref.whole cc0_scratch5) (x2 c)).1 $$ HV2
  icases HV2 with ⟨H80, H81⟩
  ihave HO2 := (some_row c (Memref.whole main_v1) (x2 c)).1 $$ HO2
  icases HO2 with ⟨H82, H83⟩
  ihave HA3 := (some_row c (Memref.whole cc0_scratch4) (x3 c)).1 $$ HA3
  icases HA3 with ⟨H84, H85⟩
  ihave HV3 := (some_row c (Memref.whole cc0_scratch5) (x3 c)).1 $$ HV3
  icases HV3 with ⟨H86, H87⟩
  ihave HO3 := (some_row c (Memref.whole main_v1) (x3 c)).1 $$ HO3
  icases HO3 with ⟨H88, H89⟩
  iapply bind_step
  iapply (part1 m K c) $$ HC H56 H57 H3 H62 H63 H5 H65 H66 H6 H59 H60 H4
  iintro %v2 %v3 %v4 %v27
  iintro H97 H98 H99 H100
  dsimp only
  iapply bind_step
  iapply (part2 m K c _ _ _ _) $$ HC H53 H54 H2 H50 H51 H1 H90 H91 H95 H92 H96 H93 H94
  iintro %v45 %v46 %v47 %v48 %v49 %v50 %v51 %v52 %v53 %v54 %v55 %v56
  iintro H101 H102 HS3 HS1 H115 H116
  ihave HS3 := (Entails.of_eq (slots_x3 c)) $$ HS3
  icases HS3 with ⟨H103, H104, H105, H106, H107, H108⟩
  ihave HS1 := (Entails.of_eq (slots_x1 c)) $$ HS1
  icases HS1 with ⟨H109, H110, H111, H112, H113, H114⟩
  dsimp only
  iapply bind_step
  iapply (part3 m K c _) $$ HC H97 H98 H58 H64 H116
  iintro %v82
  iintro H117 H118 H119 H120 H121
  iapply bind_step
  iapply (part4 m K c _ _ _ _) $$ HC H78 H103 H14 H19 H121 H99 H67 H119
  iintro %v113
  iintro H122 H123 H124 H125 H126
  iapply bind_step
  iapply (part5 m K c _ _ _ _) $$ HC H124 H79 H109 H16 H23 H126 H100 H61
  iintro H127 H128 H129 H130 H131
  iapply bind_step
  iapply (part6 m K c _ _ _) $$ HC H130 H120 H84 H104 H15 H21 H131 H101
  iintro %v173 %w
  iintro H132 H133 H134 H135 H136
  dsimp only
  iapply bind_step
  iapply (part7 m K c _ _ _ _ _) $$ HC H133 H55 H129 H73 H110 H17 H25 H136
  iintro %v211 %w
  iintro H137 H138 H139 H140 H141
  dsimp only
  iapply bind_step
  iapply (part8 m K c _ _ _) $$ HC H140 H134 H72 H135 H139 H85 H102 H141
  iintro H142 H143 H144 H145 H146 H147 H148 H149
  iapply bind_step
  iapply (part9 m K c _ _ _) $$ HC H52 H144 H70 H147 H71
  iintro H150 H151 H152 H153 H154
  iapply bind_step
  iapply (part10 m K c _ _ _ _) $$ HC H18 H145 H111 H26 H29 H149
  iintro H155 H156 H157
  iapply bind_step
  iapply (part11 m K c _ _ _ _) $$ HC H22 H148 H105 H27 H31 H157
  iintro H158 H159 H160
  iapply bind_step
  iapply (part12 m K c _ _ _) $$ HC H20 H152 H24 H154 H160
  iintro %w
  iintro H161 H162 H163 H164 H165
  iapply bind_step
  iapply (part13 m K c _ _ _ _) $$ HC H164 H28 H163 H165
  iintro H166 H167 H168 H169
  iapply bind_step
  iapply (part14 m K c _ _ _) $$ HC H167 H112 H32 H35 H107 H38 H43 H169 H30 H168
  iintro H170 H171 H172 H173 H174 H175
  iapply bind_step
  iapply (part15 m K c _ _ _) $$ HC H174 H106 H33 H37 H113 H40 H47 H175 H173
  iintro %w
  iintro H176 H177 H178 H179
  iapply bind_step
  iapply (part16 m K c _ _ _ _) $$ HC H68 H69 H7 H34 H108 H39 H45 H179
  iintro H180 H181 H182 H183 H184
  iapply bind_step
  iapply (part17 m K c _ _ _) $$ HC H182 H74 H76 H8 H36 H184
  iintro H185 H186 H187 H188 H189
  iapply bind_step
  iapply (part18 m K c _ _) $$ HC H187 H114 H41 H49 H189 H87 H89 H11
  iintro H190 H191 H192 H193
  iapply bind_step
  iapply (part19 m K c _ _ _ _) $$ HC H42 H86 H88 H9 H46 H193
  iintro H194 H195 H196 H197
  iapply bind_step
  iapply (part20 m K c _ _ _) $$ HC H75 H77 H12 H44 H80 H197
  iintro H198 H199 H200 H201
  iapply bind_step
  iapply (part21 m K c _ _ _) $$ HC H200 H82 H10 H48 H81 H83 H13 H201
  iintro H202 H203 H204 H205
  iapply bind_step
  iapply (part22 m K c _ _ _) $$ HC H122 H132 H156 H205
  iintro H206 H207 H208 H209
  iapply bind_step
  iapply (part23 m K c _ _) $$ HC H170 H171 H181 H127 H209
  iintro %w
  iintro H210 H211 H212 H213 H214
  iapply bind_step
  iapply (part24 m K c _ _ _ _) $$ HC H137 H159 H176 H214
  iintro H215 H216 H217 H218
  iapply bind_step
  iapply (part25 m K c) $$ HC H177 H190 H186 H192 H195 H198 H218
  iintro H219 H220 H221 H222 H223 H224 H225
  simp only [Prog.lift, Prog.bind_op, Prog.bind_ret, Prog.pure_eq_ret]
  iapply (wait_step m K c (.wb 0 2) (sends.drop 12) 0 rfl (by decide) rfl rfl ?_) $$ HC H202 H225
  · rfl
  iintro ⟨Hp, Hz, H226⟩
  ihave H227 := (to_past m c (.wb 0 2) rfl) $$ Hp Hz
  iapply (wait_step m K c (.wb 1 2) (sends.drop 12) 0 rfl (by decide) rfl rfl ?_) $$ HC H204 H226
  · rfl
  iintro ⟨Hp, Hz, H228⟩
  ihave H229 := (to_past m c (.wb 1 2) rfl) $$ Hp Hz
  iapply (wait_step m K c .own (sends.drop 12) 0 rfl (by decide) rfl rfl ?_) $$ HC H180 H228
  · rfl
  iintro ⟨Hp, Hz, H230⟩
  ihave H231 := (to_past m c .own rfl) $$ Hp Hz
  iapply ret_step
  iapply HQ
  iframe

end Cert.AllReduce
end
-- ==== Proof.Ends.lean ====
/-
The two ends of a device's body: the buffers it is given whole are its chunks, and the chunks it leaves are the buffers whole,
its arguments unchanged and its result computed.
-/
module

public import proofs.«01_k».proof.Proof.Body

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The result on every device: row chunk by row chunk. -/
def result : S1536x1536.Idx → Elt F .f32 := glue rParts fun j => rowOf (fin m j 0) (fin m j 1)

section
variable (c : Dev nD)

/-! ## Buffers and their chunks -/

theorem some_whole (b : Ref sig .tc) :
    (some' c (Memref.whole b) : sProp 𝕄) = iprop(∃ f : Buf (Elt F) ((c : Thread nD τ).loc b), ((c : Thread nD τ).loc b) ↦{fullShare} f) := by
  unfold some'
  exact congrArg _ (funext fun f => owns_whole (c : Thread nD τ) b fullShare f)

/-- The scratch buffers, whatever they hold. -/
def scratch : sProp 𝕄 :=
  iprop(some' c (Memref.whole cc0_scratch0) ∗ some' c (Memref.whole cc0_scratch1) ∗ some' c (Memref.whole cc0_scratch2)
    ∗ some' c (Memref.whole cc0_scratch3) ∗ some' c (Memref.whole cc0_scratch4) ∗ some' c (Memref.whole cc0_scratch5)
    ∗ some' c (Memref.whole cc0_scratch6) ∗ some' c (Memref.whole cc0_scratch7) ∗ some' c (Memref.whole cc0_scratch8)
    ∗ some' c (Memref.whole cc0_scratch9))

theorem scratch_eq : (Pipeline.scopedRest (Ix := Unit) (Name := ℕ) (U := UU) (Lvl := ℕ) (Val := Elt F) (cfg0.spec) c : sProp 𝕄) = scratch c := by
  rw [scopedRest0_eq]
  unfold scratch
  simp only [some_whole]

/-- The arguments and the result's buffer, the result at contents `R`. -/
def arrays (R : S1536x1536.Idx → Elt F .f32) : sProp 𝕄 :=
  iprop(owns (c : Thread nD τ) (Memref.whole main_arg0) fullShare (m ((c : Thread nD τ).loc main_arg0))
    ∗ owns (c : Thread nD τ) (Memref.whole main_arg1) fullShare (m ((c : Thread nD τ).loc main_arg1))
    ∗ owns (c : Thread nD τ) (Memref.whole main_v1) fullShare R)

/-- A two-by-two buffer is its four slots, -/
theorem some_quad (M : Memref sig .tc .vmem S2x2x384x768 .bf16) :
    (some' c M : sProp 𝕄) ⊣⊢ bigSep Finset.univ fun t : Fin 2 × Fin 2 =>
      some' c ((M.slice (sRect4 t.1 t.2) (fun _ => rfl)).squeeze S384x768 squeezes_S1x1x384x768_S384x768) :=
  ⟨(split_some s4Parts c M (fun _ _ => rfl)).trans (bigSep_mono fun t _ => (some_squeezed c _ _).2),
   (bigSep_mono fun t _ => (some_squeezed c (M.slice (sRect4 t.1 t.2) (fun _ => rfl)) _).1).trans (join_some s4Parts c M (fun _ _ => rfl))⟩
/-- a pair buffer its two. -/
theorem some_pair (M : Memref sig .tc .vmem S2x384x768 .bf16) :
    (some' c M : sProp 𝕄) ⊣⊢ bigSep Finset.univ fun d : Fin 2 =>
      some' c ((M.slice (sRect3 d) (fun _ => rfl)).squeeze S384x768 squeezes_S1x384x768_S384x768) :=
  ⟨(split_some s3Parts c M (fun _ _ => rfl)).trans (bigSep_mono fun t _ => (some_squeezed c _ _).2),
   (bigSep_mono fun t _ => (some_squeezed c (M.slice (sRect3 t) (fun _ => rfl)) _).1).trans (join_some s3Parts c M (fun _ _ => rfl))⟩

theorem each_slot (Φ : Fin 2 × Fin 2 → sProp 𝕄) : bigSep Finset.univ Φ = iprop(Φ (0, 0) ∗ Φ (0, 1) ∗ Φ (1, 0) ∗ Φ (1, 1)) := by
  rw [bigSep_univ_eq_bigSepL [(0, 0), (0, 1), (1, 0), (1, 1)] (by decide) (by decide)]
  simp only [bigSepL_cons_cons, bigSepL_singleton]
  rfl

/-! ## The start -/

/-- The chunks of the buffers, as the body takes them, -/
def chunks : sProp 𝕄 :=
  iprop((bigSep Finset.univ fun j : Dev nD => iprop(owns (c : Thread nD τ) (aH j) fullShare (aVal m c j) ∗ some' c (aV j) ∗ some' c (aB j)))
    ∗ (bigSep Finset.univ fun d : Fin 2 => iprop(owns (c : Thread nD τ) (bH d) fullShare (bVal m c d) ∗ some' c (bV d) ∗ some' c (bB d)))
    ∗ (bigSep Finset.univ fun j : Dev nD => iprop(some' c (accr j) ∗ some' c (oVr j) ∗ some' c (oHr j)))
    ∗ slots c 0 1 ∗ slots c 1 0)

theorem enter (R : S1536x1536.Idx → Elt F .f32) : iprop(arrays m c R ∗ scratch c) ⊢ (chunks m c : sProp 𝕄) := by
  unfold arrays scratch chunks slots
  simp only [bigSep_sep']
  iintro ⟨⟨A, B, O⟩, S0, S1, S2, S3, S4, S5, S6, S7, S8, S9⟩
  ihave A := (split_owns aParts c (Memref.whole main_arg0) (fun _ _ => rfl) _) $$ A
  ihave S0 := (split_some aParts c (Memref.whole cc0_scratch0) (fun _ _ => rfl)) $$ S0
  ihave S2 := (split_some aParts c (Memref.whole cc0_scratch2) (fun _ _ => rfl)) $$ S2
  ihave B := (split_owns bParts c (Memref.whole main_arg1) (fun _ _ => rfl) _) $$ B
  ihave S1 := (split_some bParts c (Memref.whole cc0_scratch1) (fun _ _ => rfl)) $$ S1
  ihave S3 := (split_some bParts c (Memref.whole cc0_scratch3) (fun _ _ => rfl)) $$ S3
  ihave O := (owns_some c) $$ O
  ihave O := (split_some rParts c (Memref.whole main_v1) (fun _ _ => rfl)) $$ O
  ihave S4 := (split_some rParts c (Memref.whole cc0_scratch4) (fun _ _ => rfl)) $$ S4
  ihave S5 := (split_some rParts c (Memref.whole cc0_scratch5) (fun _ _ => rfl)) $$ S5
  ihave S6 := ((some_quad c (Memref.whole cc0_scratch6)).1.trans (Entails.of_eq (each_slot _))) $$ S6
  ihave S7 := ((some_pair c (Memref.whole cc0_scratch7)).1.trans (Entails.of_eq (each_half _))) $$ S7
  ihave S8 := ((some_pair c (Memref.whole cc0_scratch8)).1.trans (Entails.of_eq (each_half _))) $$ S8
  ihave S9 := ((some_quad c (Memref.whole cc0_scratch9)).1.trans (Entails.of_eq (each_slot _))) $$ S9
  icases S6 with ⟨S60, S61, S62, S63⟩
  icases S7 with ⟨S70, S71⟩
  icases S8 with ⟨S80, S81⟩
  icases S9 with ⟨S90, S91, S92, S93⟩
  isplitl [A S0 S2]
  · isplitl [A]; · iexact A
    isplitl [S0] <;> iassumption
  isplitl [B S1 S3]
  · isplitl [B]; · iexact B
    isplitl [S1] <;> iassumption
  isplitl [O S4 S5]
  · isplitl [S4]; · iexact S4
    isplitl [S5] <;> iassumption
  isplitl [S60 S61 S71 S81 S90 S91]
  · isplitl [S60]; · iexact S60
    isplitl [S61]; · iexact S61
    isplitl [S71]; · iexact S71
    isplitl [S81]; · iexact S81
    isplitl [S90] <;> iassumption
  · isplitl [S62]; · iexact S62
    isplitl [S63]; · iexact S63
    isplitl [S70]; · iexact S70
    isplitl [S80]; · iexact S80
    isplitl [S92] <;> iassumption

/-! ## The end -/

/-- What is left of a transfer when the body ends, its semaphore aside. -/
def kept : Chan → sProp 𝕄
  | .g1r d => owns (c : Thread nD τ) (g1B d) fullShare.right (red m (p2 d c) d)
  | k => pay m c k

theorem after_kept (k : Chan) : after m c k = iprop(kept m c k ∗ shut c k) := by cases k <;> rfl

theorem kept_a (j : Dev nD) : kept m c (.a j) ⊢ iprop(owns (c : Thread nD τ) (aV j) fullShare (aVal m c j) ∗ owns (c : Thread nD τ) (aH j) fullShare (aVal m c j)) := .rfl
theorem kept_b (d : Fin 2) : kept m c (.b d) ⊢ iprop(owns (c : Thread nD τ) (bV d) fullShare (bVal m c d) ∗ owns (c : Thread nD τ) (bH d) fullShare (bVal m c d)) := .rfl
theorem kept_own : kept m c .own ⊢ iprop(owns (c : Thread nD τ) (oHr c) fullShare (rowOf (fin m c 0) (fin m c 1))
    ∗ owns (c : Thread nD τ) (oVr c) fullShare (rowOf (fin m c 0) (fin m c 1))) := .rfl
theorem kept_wb {d : Fin 2} {i : Fin 3} {j : Dev nD} (h : tgt d i c = j) :
    kept m c (.wb d i) ⊢ iprop(owns (c : Thread nD τ) (oH j d) fullShare (fin m j d) ∗ owns (c : Thread nD τ) (oV j d) fullShare (fin m j d)) := by
  subst h; exact .rfl
theorem kept_s1s {d j : Fin 2} {e : Dev nD} (h : rcv d j (p1 d c) = e) : kept m c (.s1s d j) ⊢ some' c (acc e d) := by
  subst h; exact owns_some c

/-- The three shares of the device's own chunk together again, -/
theorem kept_acc (d : Fin 2) : kept m c (.g1s d)
    ⊢ iprop(kept m c (.g2s d 0) -∗ owns (c : Thread nD τ) (acc c d) fullShare.right.right (red m c d) -∗ some' c (acc c d)) := by
  show owns (c : Thread nD τ) (acc c d) fullShare.left (red m c d) ⊢ iprop(owns (c : Thread nD τ) (acc c d) fullShare.right.left (red m c d) -∗ _)
  iintro H1 H2 H3
  ihave H := (owns_halves (c : Thread nD τ) (acc c d) fullShare.right (red m c d)).2 $$ [H2 H3]
  · iframe
  ihave H := (owns_halves (c : Thread nD τ) (acc c d) fullShare (red m c d)).2 $$ [H1 H]
  · iframe
  iapply (owns_some c)
  iexact H
/-- and the two of the chunk that was sent on. -/
theorem kept_g1 (d : Fin 2) : kept m c (.g2s d 1) ⊢ iprop(kept m c (.g1r d) -∗ some' c (g1B d)) := by
  show owns (c : Thread nD τ) (g1B d) fullShare.left (red m (p2 d c) d) ⊢ iprop(owns (c : Thread nD τ) (g1B d) fullShare.right (red m (p2 d c) d) -∗ _)
  iintro H1 H2
  ihave H := (owns_halves (c : Thread nD τ) (g1B d) fullShare (red m (p2 d c) d)).2 $$ [H1 H2]
  · iframe
  iapply (owns_some c)
  iexact H

theorem leave : (finish m c : sProp 𝕄) ⊢ iprop(arrays m c (result m) ∗ scratch c
    ∗ (bigSep Finset.univ fun q : DmaSem sig => semVal ((c : Thread nD τ), SemLoc.dma q) 0) ∗ semVal (barCell c) 0 ∗ owing c []) := by
  unfold finish
  simp only [after_kept, bigSep_sep', shut, cell, sem_chan]
  rw [each_chan c (kept m c), each_dev c, each_half]
  iintro ⟨⟨⟨A0, A1, A2, A3, B0, B1, O0, O10, O30, O20, O31, O11, O21, C20, C30, C21, C11, S00, S01, S10, S11, C10, C31, U0, U1, L0, L1, GR0, GR1, M0, GL0, M1, GL1, T00, T01, T10, T11⟩, HZ⟩, R, ⟨D0, D1, D2, D3⟩, ⟨E0, E1⟩, HB, HO⟩
  ihave R := (owns_row c (Memref.whole cc0_scratch4) c fullShare.right.right (red m c 0) (red m c 1)).1 $$ R
  icases R with ⟨R0, R1⟩
  ihave A0 := (kept_a m c c) $$ A0
  icases A0 with ⟨V0, A0⟩
  ihave V0 := (owns_some c) $$ V0
  ihave A1 := (kept_a m c (x1 c)) $$ A1
  icases A1 with ⟨V1, A1⟩
  ihave V1 := (owns_some c) $$ V1
  ihave A2 := (kept_a m c (x2 c)) $$ A2
  icases A2 with ⟨V2, A2⟩
  ihave V2 := (owns_some c) $$ V2
  ihave A3 := (kept_a m c (x3 c)) $$ A3
  icases A3 with ⟨V3, A3⟩
  ihave V3 := (owns_some c) $$ V3
  ihave B0 := (kept_b m c 0) $$ B0
  icases B0 with ⟨W0, B0⟩
  ihave W0 := (owns_some c) $$ W0
  ihave B1 := (kept_b m c 1) $$ B1
  icases B1 with ⟨W1, B1⟩
  ihave W1 := (owns_some c) $$ W1
  ihave O0 := (kept_own m c) $$ O0
  icases O0 with ⟨O0, P0⟩
  ihave P0 := (owns_some c) $$ P0
  ihave O10 := (kept_wb m c (show tgt 0 0 c = x1 c from rfl)) $$ O10
  icases O10 with ⟨O10, P10⟩
  ihave P10 := (owns_some c) $$ P10
  ihave O30 := (kept_wb m c (show tgt 0 1 c = x3 c from rfl)) $$ O30
  icases O30 with ⟨O30, P30⟩
  ihave P30 := (owns_some c) $$ P30
  ihave O20 := (kept_wb m c (show tgt 0 2 c = x2 c from rfl)) $$ O20
  icases O20 with ⟨O20, P20⟩
  ihave P20 := (owns_some c) $$ P20
  ihave O31 := (kept_wb m c (show tgt 1 0 c = x3 c from rfl)) $$ O31
  icases O31 with ⟨O31, P31⟩
  ihave P31 := (owns_some c) $$ P31
  ihave O11 := (kept_wb m c (show tgt 1 1 c = x1 c from rfl)) $$ O11
  icases O11 with ⟨O11, P11⟩
  ihave P11 := (owns_some c) $$ P11
  ihave O21 := (kept_wb m c (show tgt 1 2 c = x2 c from rfl)) $$ O21
  icases O21 with ⟨O21, P21⟩
  ihave P21 := (owns_some c) $$ P21
  ihave C20 := (kept_s1s m c (rcv00 c)) $$ C20
  ihave C30 := (kept_s1s m c (rcv01 c)) $$ C30
  ihave C21 := (kept_s1s m c (rcv10 c)) $$ C21
  ihave C11 := (kept_s1s m c (rcv11 c)) $$ C11
  ihave S00 := (show kept m c (.s1r 0 0) ⊢ some' c (s1B 0 0) from owns_some c) $$ S00
  ihave S01 := (show kept m c (.s1r 0 1) ⊢ some' c (s1B 0 1) from owns_some c) $$ S01
  ihave S10 := (show kept m c (.s1r 1 0) ⊢ some' c (s1B 1 0) from owns_some c) $$ S10
  ihave S11 := (show kept m c (.s1r 1 1) ⊢ some' c (s1B 1 1) from owns_some c) $$ S11
  ihave C10 := (show kept m c (.s2s 0) ⊢ some' c (acc (x1 c) 0) from owns_some c) $$ C10
  ihave C31 := (show kept m c (.s2s 1) ⊢ some' c (acc (x3 c) 1) from owns_some c) $$ C31
  ihave U0 := (show kept m c (.s2r 0) ⊢ some' c (s2B 0) from owns_some c) $$ U0
  ihave U1 := (show kept m c (.s2r 1) ⊢ some' c (s2B 1) from owns_some c) $$ U1
  ihave T00 := (show kept m c (.g2r 0 0) ⊢ some' c (g2B 0 0) from owns_some c) $$ T00
  ihave T01 := (show kept m c (.g2r 0 1) ⊢ some' c (g2B 0 1) from owns_some c) $$ T01
  ihave T10 := (show kept m c (.g2r 1 0) ⊢ some' c (g2B 1 0) from owns_some c) $$ T10
  ihave T11 := (show kept m c (.g2r 1 1) ⊢ some' c (g2B 1 1) from owns_some c) $$ T11
  ihave C00 := (kept_acc m c 0) $$ L0 M0 R0
  ihave G0 := (kept_g1 m c 0) $$ GL0 GR0
  ihave C01 := (kept_acc m c 1) $$ L1 M1 R1
  ihave G1 := (kept_g1 m c 1) $$ GL1 GR1
  ihave O1 := (owns_row c (Memref.whole main_v1) (x1 c) fullShare (fin m (x1 c) 0) (fin m (x1 c) 1)).2 $$ [O10 O11]
  · iframe
  ihave P1 := (some_row c (Memref.whole cc0_scratch5) (x1 c)).2 $$ [P10 P11]
  · iframe
  ihave O2 := (owns_row c (Memref.whole main_v1) (x2 c) fullShare (fin m (x2 c) 0) (fin m (x2 c) 1)).2 $$ [O20 O21]
  · iframe
  ihave P2 := (some_row c (Memref.whole cc0_scratch5) (x2 c)).2 $$ [P20 P21]
  · iframe
  ihave O3 := (owns_row c (Memref.whole main_v1) (x3 c) fullShare (fin m (x3 c) 0) (fin m (x3 c) 1)).2 $$ [O30 O31]
  · iframe
  ihave P3 := (some_row c (Memref.whole cc0_scratch5) (x3 c)).2 $$ [P30 P31]
  · iframe
  ihave C0 := (some_row c (Memref.whole cc0_scratch4) c).2 $$ [C00 C01]
  · iframe
  ihave C1 := (some_row c (Memref.whole cc0_scratch4) (x1 c)).2 $$ [C10 C11]
  · iframe
  ihave C2 := (some_row c (Memref.whole cc0_scratch4) (x2 c)).2 $$ [C20 C21]
  · iframe
  ihave C3 := (some_row c (Memref.whole cc0_scratch4) (x3 c)).2 $$ [C30 C31]
  · iframe

  unfold arrays scratch
  isplitl [A0 A1 A2 A3 B0 B1 O0 O1 O2 O3]
  · isplitl [A0 A1 A2 A3]
    · iapply (owns_of_rects (c : Thread nD τ) (Memref.whole main_arg0) fullShare aRect (fun _ _ => rfl) aParts.disjoint aParts.cover _)
      rw [each_dev c]
      isplitl [A0]; · iexact A0
      isplitl [A1]; · iexact A1
      isplitl [A2]; · iexact A2
      iexact A3
    isplitl [B0 B1]
    · iapply (owns_of_rects (c : Thread nD τ) (Memref.whole main_arg1) fullShare bRect (fun _ _ => rfl) bParts.disjoint bParts.cover _)
      rw [each_half]
      isplitl [B0]; · iexact B0
      iexact B1
    · iapply (join_owns rParts c (Memref.whole main_v1) (fun _ _ => rfl) _)
      rw [each_dev c]
      isplitl [O0]; · iexact O0
      isplitl [O1]; · iexact O1
      isplitl [O2]; · iexact O2
      iexact O3
  isplitr [HZ HB HO]
  · isplitl [V0 V1 V2 V3]
    · iapply (join_some aParts c (Memref.whole cc0_scratch0) (fun _ _ => rfl))
      rw [each_dev c]
      iframe
    isplitl [W0 W1]
    · iapply (join_some bParts c (Memref.whole cc0_scratch1) (fun _ _ => rfl))
      rw [each_half]
      iframe
    isplitl [D0 D1 D2 D3]
    · iapply (owns_some c)
      iapply (join_owns aParts c (Memref.whole cc0_scratch2) (fun _ _ => rfl) (aRnd m c))
      rw [each_dev c]
      iframe
    isplitl [E0 E1]
    · iapply (owns_some c)
      iapply (join_owns bParts c (Memref.whole cc0_scratch3) (fun _ _ => rfl) (bRnd m c))
      rw [each_half]
      iframe
    isplitl [C0 C1 C2 C3]
    · iapply (join_some rParts c (Memref.whole cc0_scratch4) (fun _ _ => rfl))
      rw [each_dev c]
      iframe
    isplitl [P0 P1 P2 P3]
    · iapply (join_some rParts c (Memref.whole cc0_scratch5) (fun _ _ => rfl))
      rw [each_dev c]
      iframe
    isplitl [S00 S01 S10 S11]
    · iapply (some_quad c (Memref.whole cc0_scratch6)).2
      rw [each_slot]
      iframe
    isplitl [U0 U1]
    · iapply (some_pair c (Memref.whole cc0_scratch7)).2
      rw [each_half]
      iframe
    isplitl [G0 G1]
    · iapply (some_pair c (Memref.whole cc0_scratch8)).2
      rw [each_half]
      iframe
    · iapply (some_quad c (Memref.whole cc0_scratch9)).2
      rw [each_slot]
      iframe
  isplitl [HZ]; · iexact HZ
  isplitl [HB]; · iexact HB
  iexact HO

end

end Cert.AllReduce
end
-- ==== Proof.Launch.lean ====
/-
The launch: the cells' invariants allocated, the duties' tokens and the credit dealt to the devices that use them, and the
run of the program from any memory whose semaphores are zero.
-/
module

public import proofs.«01_k».proof.Proof.Ends
public import Idealize.ShloMosaic.Lib.Pipeline.CollectiveSegs
public import Idealize.ShloMosaic.Lib.Quiescent

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

/-- The kernel's own semaphores. -/
abbrev osem : DmaSem sig → SemLoc sig := .dma

theorem ownSemFacts : Pipeline.OwnSemFacts cfg0.spec osem := by decide

/-- A resource of every semaphore: of the barrier, and of every DMA semaphore. -/
theorem each_sem (Φ : SemLoc sig → sProp 𝕄) :
    bigSep Finset.univ Φ = iprop(Φ (.reg barS) ∗ bigSep Finset.univ fun q : DmaSem sig => Φ (.dma q)) := by
  have h : (Finset.univ : Finset (SemLoc sig)) = insert (.reg barS) (Finset.univ.map ⟨SemLoc.dma, fun _ _ h => SemLoc.dma.inj h⟩) := by decide
  rw [h, bigSep_insert (by decide), bigSep_map]
  rfl

theorem pairs {α : Type} [Fintype α] (Φ Ψ : α → sProp 𝕄) :
    (bigSep Finset.univ fun a => iprop(Φ a ∗ Ψ a)) = iprop(bigSep Finset.univ Φ ∗ bigSep Finset.univ Ψ) := bigSep_sep' _ _ _

theorem each_bool (Φ : Bool → sProp 𝕄) : bigSep Finset.univ Φ = iprop(Φ false ∗ Φ true) := by
  rw [bigSep_univ_eq_bigSepL [false, true] (by decide) (by decide)]
  simp only [bigSepL_cons_cons, bigSepL_singleton]
  rfl

theorem unscopedSems0_eq (c : Dev nD) : (unscopedSems0 c : sProp 𝕄) = semVal (barCell c) 0 := by
  unfold unscopedSems0
  rw [bigSep_eq_bigSepL_of_eq [SemLoc.reg barS] (by decide) (by decide)]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [unscopedSems0_eq, each_sem]
  unfold Pipeline.ownSems0
  exact sep_comm.1

/-! ## The ghost state at launch -/

theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  rw [h1, h2]

def tokOf (x : (Dev nD × SemLoc sig) × Bool) : GSem nD τ sig × ℕ × Bool := (kcell x.1, 0, x.2)

theorem tokOf_injective : Function.Injective tokOf := by
  rintro ⟨ck, b⟩ ⟨ck', b'⟩ h
  have h1 : ck = ck' := kcell_injective (congrArg (fun x : GSem nD τ sig × ℕ × Bool => x.1) h)
  have h2 : b = b' := congrArg (fun x : GSem nD τ sig × ℕ × Bool => x.2.2) h
  rw [h1, h2]

def allCells : Finset (GSem nD τ sig) := Finset.univ.map ⟨kcell, kcell_injective⟩
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- A token for each of the two duty names of each of a device's cells. -/
def minted (c : Dev nD) : sProp 𝕄 :=
  bigSep Finset.univ fun sm : SemLoc sig => bigSep Finset.univ fun b : Bool => dutyTok ER (kcell (c, sm)) 0 b

/-- A device's share of the launch's ghost state. -/
def G (c : Dev nD) : sProp 𝕄 :=
  iprop((bigSep Finset.univ fun sm : SemLoc sig => roundState ER (sched m) (kcell (c, sm)) 0)
    ∗ (bigSep Finset.univ fun sm : SemLoc sig => iprop(atPos ER (kcell (c, sm)) 0 ∅ 0 ∗ reached ER (kcell (c, sm)) 0)) ∗ minted c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  iframe

/-! ## Dealing the tokens -/

/-- What a device has of its cells, and the tokens of the duties it pays. -/
def mine (c : Dev nD) : sProp 𝕄 :=
  iprop((bigSep Finset.univ fun sm : SemLoc sig => atPos ER (kcell (c, sm)) 0 ∅ 0)
    ∗ dutyTok ER (barCell (x3 c)) 0 false ∗ dutyTok ER (barCell (x1 c)) 0 true
    ∗ bigSep Finset.univ fun q : DmaSem sig => tok (peer c (chan q)) (chan q))

/-- The partner relation of every semaphore, on all devices at once. -/
def around : Dev nD × DmaSem sig ≃ Dev nD × DmaSem sig :=
  ⟨fun p => (peer p.1 (chan p.2), p.2), fun p => (peer p.1 (chan p.2), p.2),
    fun p => Prod.ext (peer_peer p.1 (chan p.2)) rfl, fun p => Prod.ext (peer_peer p.1 (chan p.2)) rfl⟩

def swap (k : Fin 4) : Dev nD ≃ Dev nD := ⟨flip k, flip k, flip_flip k, flip_flip k⟩

theorem deal : (bigSep Finset.univ fun c : Dev nD => (minted c : sProp 𝕄))
    ⊢ bigSep Finset.univ fun c : Dev nD => iprop(dutyTok ER (barCell (x3 c)) 0 false ∗ dutyTok ER (barCell (x1 c)) 0 true
      ∗ bigSep Finset.univ fun q : DmaSem sig => tok (peer c (chan q)) (chan q)) := by
  have h (c : Dev nD) : (minted c : sProp 𝕄) ⊢ iprop((dutyTok ER (barCell c) 0 false ∗ dutyTok ER (barCell c) 0 true)
      ∗ bigSep Finset.univ fun q : DmaSem sig => tok c (chan q)) := by
    unfold minted
    rw [each_sem, each_bool]
    refine BIClass.sep_mono .rfl (bigSep_mono fun q _ => ?_)
    rw [each_bool]
    show _ ⊢ dutyTok ER ((c : Thread nD τ), SemLoc.dma (chan q).sem) 0 false
    rw [sem_chan]
    exact sep_elim_left
  refine BIBase.Entails.trans (bigSep_mono fun c _ => h c) ?_
  simp only [pairs]
  rw [← bigSep_univ_prod (fun p : Dev nD × DmaSem sig => (tok p.1 (chan p.2) : sProp 𝕄)),
    bigSep_univ_equiv around (fun p : Dev nD × DmaSem sig => (tok p.1 (chan p.2) : sProp 𝕄)), bigSep_univ_prod,
    bigSep_univ_equiv (swap 3) (fun c : Dev nD => (dutyTok ER (barCell c) 0 false : sProp 𝕄)),
    bigSep_univ_equiv (swap 1) (fun c : Dev nD => (dutyTok ER (barCell c) 0 true : sProp 𝕄))]
  show iprop(((bigSep Finset.univ fun c => dutyTok ER (barCell (x3 c)) 0 false) ∗ (bigSep Finset.univ fun c => dutyTok ER (barCell (x1 c)) 0 true))
      ∗ bigSep Finset.univ fun c : Dev nD => bigSep Finset.univ fun q : DmaSem sig => tok (peer c (chan q)) (chan q)) ⊢ _
  iintro ⟨⟨H1, H2⟩, H3⟩
  iframe

/-! ## Allocating the invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0)) ∗ minted c) := by
  have hI : iprop((bigSep Finset.univ fun sm : SemLoc sig => semVal (kcell (c, sm)) 0) ∗ bigSep Finset.univ fun sm : SemLoc sig => roundState ER (sched m) (kcell (c, sm)) 0)
      ⊢ (|={Set.univ}=> bigSep Finset.univ fun sm : SemLoc sig => iprop(∃ κ : ℕ, cellInv ER (sched m) κ (kcell (c, sm))) : sProp 𝕄) := by
    rw [← bigSep_sep']
    exact (bigSep_mono fun sm _ => (Rounds.body_intro ER (sched m) (kcell (c, sm))).trans inv_alloc).trans (bigSep_fupd _ _)
  unfold G
  iintro ⟨Hos, Hus, Hst, Hat, Htok⟩
  ihave Hv := (sems0_eq (F := F) c) $$ [Hos Hus]
  · iframe
  imod hI $$ [Hv Hst] with Hinv
  · iframe
  imodintro
  iframe

/-- What all devices share: the invariants, and that every cell is at its first round. -/
def records (K : Dev nD × SemLoc sig → ℕ) : sProp 𝕄 :=
  iprop((bigSep Finset.univ fun ck : Dev nD × SemLoc sig => cellInv ER (sched m) (K ck) (kcell ck))
    ∗ bigSep Finset.univ fun ck : Dev nD × SemLoc sig => reached ER (kcell ck) 0)

instance records_persistent (K : Dev nD × SemLoc sig → ℕ) : BI.Persistent (records m K) := by unfold records; infer_instance

def G' (c : Dev nD) : sProp 𝕄 := iprop((∃ K, records m K) ∗ mine c)

theorem spread {R : sProp 𝕄} [BI.Persistent R] (Φ : Dev nD → sProp 𝕄) :
    iprop(R ∗ bigSep Finset.univ Φ) ⊢ bigSep Finset.univ fun c => iprop(R ∗ Φ c) := by
  rw [bigSep_sep']
  exact sep_mono_left (BI.bigSep_of_persistent Finset.univ R)

theorem regroup :
    (bigSep Finset.univ fun c : Dev nD => iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0)) ∗ minted c) : sProp 𝕄)
      ⊢ bigSep Finset.univ (G' m) := by
  simp only [pairs]
  rw [← bigSep_univ_prod (fun ck : Dev nD × SemLoc sig => iprop(∃ κ : ℕ, cellInv ER (sched m) κ (kcell ck))),
    ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (sched m) κ (kcell ck) : sProp 𝕄))) $$ HI
  icases HK with ⟨%K, #HI⟩
  ihave Htok := (deal (F := F)) $$ Htok
  have hm : (bigSep Finset.univ fun c : Dev nD => (mine c : sProp 𝕄)) = _ := pairs _ _
  have h : iprop(records m K ∗ bigSep Finset.univ fun c : Dev nD => (mine c : sProp 𝕄)) ⊢ bigSep Finset.univ (G' m) :=
    (spread (R := records m K) mine).trans (bigSep_mono fun c _ => BIClass.sep_mono (exists_intro (Φ := records m) K) .rfl)
  rw [hm] at h
  iapply h
  isplitr
  · unfold records
    iframe #
  · isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How much of a cell's credit is due at launch: an arrival's amount. -/
def due (k : Chan) : ℕ := if k ∈ sends then amt k else 0

theorem cell_eq_iff {c c' : Dev nD} {k k' : Chan} : cell c k = cell c' k' ↔ c = c' ∧ k = k' := by
  constructor
  · intro h
    have h1 : c = c' := congrArg (fun g : GSem nD τ sig => g.1.1) h
    have h2 : k.sem = k'.sem := SemLoc.dma.inj (congrArg Prod.snd h)
    exact ⟨h1, by rw [← chan_sem k, h2, chan_sem]⟩
  · rintro ⟨rfl, rfl⟩; rfl

theorem peer_eq_iff (c d : Dev nD) (k : Chan) : c = peer d k ↔ d = peer c k :=
  ⟨fun h => by rw [h, peer_peer], fun h => by rw [h, peer_peer]⟩

theorem owe_cell (d c : Dev nD) (k : Chan) : ∀ l : List Chan, l.Nodup →
    owe d l (cell c k) () = if k ∈ l ∧ d = peer c k then amt k else 0
  | [], _ => by rw [if_neg fun h => List.not_mem_nil h.1]; rfl
  | k' :: l, h => by
    rw [List.nodup_cons] at h
    unfold owe
    rw [Pi.add_apply, Finsupp.add_apply, owe_cell d c k l h.2, tallyAt_apply]
    by_cases e : k = k'
    · subst e
      rw [if_neg fun h' => h.1 h'.1, Nat.zero_add]
      by_cases hd : d = peer c k
      · rw [if_pos ⟨cell_eq_iff.mpr ⟨(peer_eq_iff c d k).mpr hd, rfl⟩, rfl⟩, if_pos ⟨List.mem_cons_self, hd⟩]
      · rw [if_neg fun h' => hd ((peer_eq_iff c d k).mp (cell_eq_iff.mp h'.1).1), if_neg fun h' => hd h'.2]
    · rw [if_neg (c := cell c k = cell (peer d k') k' ∧ () = ()) (fun h' => e (cell_eq_iff.mp h'.1).2), Nat.add_zero]
      simp only [List.mem_cons, e, false_or]

theorem owe_bar (d c : Dev nD) : ∀ l : List Chan, owe d l (barCell c) () = 0
  | [] => rfl
  | k :: l => by
    unfold owe
    rw [Pi.add_apply, Finsupp.add_apply, owe_bar d c l, tallyAt_ne_cell fun h => by cases congrArg Prod.snd h]
    rfl

theorem sends_nodup : sends.Nodup := by decide

theorem bar_eq_iff {a b : Dev nD} : barCell a = barCell b ↔ a = b :=
  ⟨fun h => congrArg (fun g : GSem nD τ sig => g.1.1) h, fun h => h ▸ rfl⟩

theorem flip_eq_iff (k : Fin 4) (c d : Dev nD) : c = flip k d ↔ d = flip k c :=
  ⟨fun h => by rw [h, flip_flip], fun h => by rw [h, flip_flip]⟩

theorem owed_cell (d c : Dev nD) (k : Chan) : O₀ d (cell c k) () = if d = peer c k then due k else 0 := by
  unfold O₀
  rw [Pi.add_apply, Finsupp.add_apply, Pi.add_apply, Finsupp.add_apply, owe_cell d c k sends sends_nodup,
    tallyAt_ne_cell (fun h => by cases congrArg Prod.snd h), tallyAt_ne_cell (fun h => by cases congrArg Prod.snd h)]
  unfold due
  by_cases h : d = peer c k <;> by_cases h' : k ∈ sends <;> simp only [h, h', and_true, and_false, true_and, false_and, if_true, if_false, Finsupp.zero_apply, Nat.add_zero]

theorem owed_bar (d c : Dev nD) : O₀ d (barCell c) () = (if d = x1 c then 1 else 0) + (if d = x3 c then 1 else 0) := by
  unfold O₀
  rw [Pi.add_apply, Finsupp.add_apply, Pi.add_apply, Finsupp.add_apply, owe_bar, tallyAt_apply, tallyAt_apply, Nat.zero_add]
  congr 1 <;> exact if_congr ((and_iff_left rfl).trans (bar_eq_iff.trans (flip_eq_iff _ c d))) rfl rfl

theorem launch_cell (c : Dev nD) (k : Chan) :
    tallyOn (cell c k) (launchCredit (Pipeline.owing O₀) 0 (cell c k)) = (tallyAt (cell c k) () (due k) : CellTallies nD τ sig Unit) := by
  unfold tallyAt
  refine congrArg _ (Finsupp.ext fun u => ?_)
  cases u
  rw [Pipeline.launchCredit_owing, Finsupp.single_eq_same, Finset.sum_congr rfl fun d _ => owed_cell d c k,
    Finset.sum_ite_eq' Finset.univ (peer c k) fun _ => due k, if_pos (Finset.mem_univ _)]

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (x1 c) fun _ => 1, Finset.sum_ite_eq' Finset.univ (x3 c) fun _ => 1, if_pos (Finset.mem_univ _), if_pos (Finset.mem_univ _)]

/-- The credit a device starts with. -/
def creds (c : Dev nD) : sProp 𝕄 :=
  iprop(cred (tallyAt (barCell c) () 2) ∗ bigSep Finset.univ fun q : DmaSem sig => cred (tallyAt (cell c (chan q)) () (due (chan q))))

theorem creds_eq (c : Dev nD) : (Pipeline.launchCred O₀ c : sProp 𝕄) = creds c := by
  unfold Pipeline.launchCred creds
  rw [each_sem, launch_bar]
  refine congrArg _ (bigSep_congr fun q _ => ?_)
  rw [← launch_cell]
  show _ = cred (tallyOn ((c : Thread nD τ), SemLoc.dma (chan q).sem) (launchCredit (Pipeline.owing O₀) 0 ((c : Thread nD τ), SemLoc.dma (chan q).sem)))
  rw [sem_chan]

/-! ## From the launch to the body's start, and from its end -/

/-- What a device has before its body, its scratch buffers and what it owes aside. -/
def before (c : Dev nD) : sProp 𝕄 :=
  iprop((∃ K, ctx m K) ∗ mine c ∗ creds c ∗ arrays m c (m ((c : Thread nD τ).loc main_v1)))

/-- What it has after. -/
def behind (c : Dev nD) : sProp 𝕄 := iprop(unscopedSems0 c ∗ arrays m c (result m))

theorem given_intro (c : Dev nD) (k : Chan) :
    iprop(atPos ER (cell c k) 0 ∅ 0 ∗ tok (peer c k) k ∗ cred (tallyAt (cell c k) () (due k))) ⊢ (given c k : sProp 𝕄) := by
  have hr : peer c k = c → iprop(atPos ER (cell c k) 0 ∅ 0 ∗ tok (peer c k) k ∗ cred (tallyAt (cell c k) () (due k))) ⊢ (ready c k : sProp 𝕄) := fun h => by
    rw [h]
    unfold ready
    iintro ⟨H1, H2, -⟩
    iframe
  have ha : k ∈ sends → iprop(atPos ER (cell c k) 0 ∅ 0 ∗ tok (peer c k) k ∗ cred (tallyAt (cell c k) () (due k))) ⊢ (iprop(pend c k ∗ tok (peer c k) k) : sProp 𝕄) := fun h => by
    unfold pend due
    rw [if_pos h]
    iintro ⟨H1, H2, H3⟩
    iframe
  cases k with
  | s1r d j => exact ha ((by decide : ∀ d j, Chan.s1r d j ∈ sends) d j)
  | s2r d => exact ha ((by decide : ∀ d, Chan.s2r d ∈ sends) d)
  | g1r d => exact ha ((by decide : ∀ d, Chan.g1r d ∈ sends) d)
  | g2r d j => exact ha ((by decide : ∀ d j, Chan.g2r d j ∈ sends) d j)
  | _ => exact hr rfl

theorem start_of (c : Dev nD) : iprop(mine c ∗ creds c ∗ chunks m c ∗ ∃ W, owes (c : Thread nD τ) (O₀ c) W) ⊢ (start m c : sProp 𝕄) := by
  have h : iprop((bigSep Finset.univ fun q : DmaSem sig => (atPos ER (kcell (c, .dma q)) 0 ∅ 0 : sProp 𝕄))
      ∗ (bigSep Finset.univ fun q : DmaSem sig => tok (peer c (chan q)) (chan q))
      ∗ bigSep Finset.univ fun q : DmaSem sig => cred (tallyAt (cell c (chan q)) () (due (chan q))))
      ⊢ bigSep Finset.univ fun q : DmaSem sig => given c (chan q) := by
    rw [← bigSep_sep', ← bigSep_sep']
    refine bigSep_mono fun q _ => ?_
    refine BIBase.Entails.trans ?_ (given_intro c (chan q))
    show _ ⊢ iprop(atPos ER ((c : Thread nD τ), SemLoc.dma (chan q).sem) 0 ∅ 0 ∗ _)
    rw [sem_chan]
  unfold mine creds chunks start barPay
  rw [each_sem]
  simp only [flip_flip, if_true, Bool.false_eq_true, if_false]
  iintro ⟨⟨⟨Hb, Hat⟩, T3, T1, HT⟩, ⟨HcB, Hc⟩, ⟨HA, HB, HR, S0, S1⟩, HO⟩
  isplitl [Hat HT Hc]
  · iapply h
    iframe
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(before m c ∗ emp) := by
  rw [Pipeline.unscopedRestP_none, unscopedRest0_eq, creds_eq]
  unfold G' before arrays records ctx
  simp only [owns_whole]
  iintro ⟨⟨A, B, O⟩, Hlev, Hcr, -, ⟨%K, HI, HR⟩, HM⟩
  imodintro
  isplitl
  · isplitl [HI HR Hlev]
    · iexists K
      iframe
    iframe
  · iempintro

/-! ## The run -/

def dats (_ : Fin 1) (c : Dev nD) : Dat τ (Elt F) Unit ℕ UU ℕ cfg0 c where
  A w := m ((cfg0.win w).arr.view.loc (c : Thread nD τ))
  after w _ := (show Fin 0 from w).elim0
  Φ t := match t with
    | ⟨0, _⟩ => iprop(before m c ∗ scratch c)
    | ⟨_ + 1, _⟩ => iprop(behind m c ∗ Pipeline.ownSems0 osem c ∗ scratch c)
  q _ := fullShare
  owed t := match t with
    | ⟨0, _⟩ => O₀ c
    | ⟨_ + 1, _⟩ => 0

theorem phi0_intro (c : Dev nD) :
    iprop(before m c ∗ Pipeline.prefHeld Pipeline.Prefetch.none c (fun _ => fullShare.right) (fun k => k.elim0) ∗ Pipeline.scopedRest cfg0.spec c)
      ⊢ (dats m 0 c).Φ 0 := by
  show _ ⊢ iprop(before m c ∗ scratch c)
  rw [scratch_eq]
  iintro ⟨H, -, HS⟩
  iframe

theorem phi1_exit (c : Dev nD) :
    (dats m 0 c).Φ (Fin.last cfg0.N) ⊢ iprop(behind m c ∗ Pipeline.ownSems0 osem c ∗ Pipeline.scopedRest cfg0.spec c) := by
  show iprop(behind m c ∗ Pipeline.ownSems0 osem c ∗ scratch c) ⊢ _
  rw [scratch_eq]

theorem waits (c : Dev nD) : (levAts L lv : sProp 𝕄) ⊢ Pipeline.cellsWaits cfgs (dats m) () 0 c :=
  Pipeline.cellsWaits_intro cfgs (dats m) () 0 c fun w => (show Fin 0 from w).elim0

/-- The body on a device, from what the launch gives it to what the launch takes back. -/
theorem body_run (c : Dev nD) :
    iprop((before m c ∗ scratch c) ∗ (∃ W, owes (c : Thread nD τ) (O₀ c) W))
      ⊢ wpD c (at' (cc0_body (F := F))) fun _ => iprop((behind m c ∗ Pipeline.ownSems0 osem c ∗ scratch c) ∗ owing c []) := by
  unfold before
  iintro ⟨⟨⟨⟨%K, #HC⟩, HM, Hcr, HA⟩, HS⟩, HO⟩
  ihave Hch := (enter m c _) $$ [HA HS]
  · iframe
  ihave Hst := (start_of m c) $$ [HM Hcr Hch HO]
  · iframe
  iapply (body m K c) $$ HC Hst
  iintro Hf
  ihave H := (leave m c) $$ Hf
  icases H with ⟨HA, HS, HZ, HB, HO⟩
  unfold behind Pipeline.ownSems0
  rw [unscopedSems0_eq]
  iframe

set_option maxRecDepth 8000 in
theorem body_obligation (c : Dev nD) : BodyObligation (dats (F := F) m 0 c) (defs₀ (F := F)) 𝒱₀ () Set.univ := fun t => by
  rw [fin_N0 t]
  have h0 : (dats (F := F) m 0 c).Φ t0_0.castSucc = iprop(before m c ∗ scratch c) := rfl
  have h1 : (dats (F := F) m 0 c).Φ t0_0.succ = iprop(behind m c ∗ Pipeline.ownSems0 osem c ∗ scratch c) := rfl
  have o0 : (dats (F := F) m 0 c).owed t0_0.castSucc = O₀ c := rfl
  have o1 : (dats (F := F) m 0 c).owed t0_0.succ = owe c [] := rfl
  rw [h0, h1, Dat.owesAt, Dat.owesAt, o0, o1]
  refine BIBase.Entails.trans ?_ (((body_run m c)).trans (wp_mono _ _ _ fun _ => ?_))
  · iintro ⟨HP, ⟨%W, -, HO⟩, -⟩
    isplitl [HP]; · iexact HP
    iexists W
    iexact HO
  · unfold owing
    iintro ⟨HP, ⟨%W, HO⟩⟩
    isplitl [HP]; · iexact HP
    isplitl
    · iexists W
      isplitr
      · ipureintro
        exact fun _ _ => Or.inl trivial
      iexact HO
    iapply (Entails.of_eq (bigSep_empty (M := 𝕄)).symm)
    iempintro

set_option maxRecDepth 16000 in
/-- From any memory whose semaphores are zero, every weakly fair execution of the program ends, and ends with every device's
    arguments unchanged, its result computed and every semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = result m)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => (show Fin 0 from w).elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := before m) (Y := behind m) (Z := fun _ => iprop(emp))
    (hX := start_intro m ρ) (hin := phi0_intro m) (hout := phi1_exit m)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v1) = result m)
      ∧ ∀ sm : SemLoc sig, sm.isScoped .tc = false → s.sem ((c.tc : Thread nD τ), sm) = 0)
    (hY := fun c s' => by
      unfold behind arrays
      simp only [owns_whole]
      iintro ⟨⟨Hu, A, B, O⟩, -, HSI⟩
      icombine HSI A gives %hA
      icombine HSI B gives %hB
      icombine HSI O gives %hO
      imod (Pipeline.unscopedSems0_read (X := unscopedSems0 c) (c := c) fupd_intro s') $$ [Hu HSI] with ⟨%hs, HSI⟩
      · iframe
      imodintro
      isplitr
      · ipureintro
        exact ⟨⟨funext fun i => hA i (Finset.mem_univ i), funext fun i => hB i (Finset.mem_univ i), funext fun i => hO i (Finset.mem_univ i)⟩, hs⟩
      iexact HSI)
    (hQ := fun _ h hs => ⟨fun c => (h c).2.2.1, sem_eq_zero hs fun c => (h c).2.2.2⟩)

end Cert.AllReduce
end
-- ==== Proof.Value.lean ====
/-
The values over the reals: the array every device ends with is the positive part of the whole product, for blocks of the
two arguments cut along the summed axis.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.AllReduce

open Cert.KernelIdeal Cert.KernelIdeal.Gen

open Idealize.ShloMosaic
open Idealize.ShloMosaic.TcCoe
open scoped BigOperators

/-! ## One chunk -/

section
variable {F : FTy → Type} [FloatOps F] (m : (ℓ : Loc nD τ sig) → Buf (Elt F) ℓ)

/-- An element of the result is the element of its chunk. -/
theorem result_apply (j : Dev nD) (d : Fin 2) (r : Fin 384) (k : Fin 768) (h0 : 384 * j.val + r.val < 1536) (h1 : 768 * d.val + k.val < 1536) :
    result m (ix2 ⟨384 * j.val + r.val, h0⟩ ⟨768 * d.val + k.val, h1⟩) = fin m j d (ix2 r k) := by
  have he : (ix2 ⟨384 * j.val + r.val, h0⟩ ⟨768 * d.val + k.val, h1⟩ : S1536x1536.Idx)
      = (rRect j).emb (ix2 r ⟨768 * d.val + k.val, h1⟩ : S384x1536.Idx) := by
    funext a
    apply Fin.ext
    rw [Rect.emb_apply]
    match a with
    | ⟨0, _⟩ => exact congrArg (384 * j.val + ·) (Nat.one_mul _).symm
    | ⟨1, _⟩ => exact ((Nat.zero_add _).trans (Nat.one_mul _)).symm
  unfold result
  rw [he, glue_emb]
  match d, h1 with
  | ⟨0, _⟩, h1 =>
    refine (dif_pos (show 768 * 0 + k.val < 768 by omega)).trans ?_
    exact congrArg (fin m j 0) (congrArg (ix2 r) (Fin.ext (show 768 * 0 + k.val = k.val by omega)))
  | ⟨1, _⟩, h1 =>
    refine (dif_neg (show ¬768 * 1 + k.val < 768 by omega)).trans ?_
    exact congrArg (fin m j 1) (congrArg (ix2 r) (Fin.ext (show 768 * 1 + k.val - 768 = k.val by omega)))

end

variable (m : (ℓ : Loc nD τ sig) → Buf (Elt Ideal) ℓ)

/-- A device's partial product, element by element, -/
theorem part_apply (c j : Dev nD) (d : Fin 2) (r : Fin 384) (k : Fin 768) :
    part m c j d (ix2 r k) = (∑ l : Fin 768, aVal m c j (ix2 r l) * bVal m c d (ix2 l k) : EReal) := by
  unfold part k0_pay4 k0_pay3
  rw [shapeCast_self]
  refine (Ideal.matmul_plain_apply (φ₁ := .bf16) (φ₂ := .bf16) none (aRnd m c j) (bRnd m c d) (constant S384x768 .f32 0x00000000#32) r k).trans ?_
  show Ideal.ofBits .f32 0x00000000#32 + _ = _
  rw [Ideal.ofBits_zero_f32, zero_add]
  refine Finset.sum_congr rfl fun l _ => ?_
  unfold aRnd bRnd k0_pay1 k0_pay2
  rw [shapeCast_self, shapeCast_self]
  rfl

theorem plus_apply (x y : Vec Ideal S384x768 .bf16) (i : S384x768.Idx) : plus x y i = (x i + y i : EReal) := by
  unfold plus
  rw [shapeCast_self]
  rfl

/-- and the chunk the devices' partial products end in: their sum's positive part. -/
theorem fin_apply (j : Dev nD) (d : Fin 2) (i : S384x768.Idx) :
    fin m j d i = (max ((part m j j d i + part m (p1 d j) j d i) + (part m (p2 d j) j d i + part m (p1 d (p2 d j)) j d i)) 0 : EReal) := by
  have hz : Ideal.ofBits .bf16 0x0000#16 = 0 := by simp [Ideal.ofBits, Ideal.ieee]
  unfold fin wide red pos
  rw [shapeCast_self, shapeCast_self]
  show (max (plus (sum0 m j d) (sum1 m (p2 d j) d) i) (Ideal.ofBits .bf16 0x0000#16) : EReal) = _
  rw [hz, plus_apply]
  unfold sum0 sum1
  rw [plus_apply, plus_apply, p2_p2]

/-- The two exchanges meet every device once. -/
theorem four (T : Dev nD → EReal) (j : Dev nD) (d : Fin 2) :
    (T j + T (p1 d j)) + (T (p2 d j) + T (p1 d (p2 d j))) = ∑ e : Dev nD, T e := by
  have hu : ∀ (j : Dev nD) (d : Fin 2), (Finset.univ : Finset (Dev nD)) = {j, p1 d j, p2 d j, p1 d (p2 d j)}
      ∧ j ∉ ({p1 d j, p2 d j, p1 d (p2 d j)} : Finset (Dev nD)) ∧ p1 d j ∉ ({p2 d j, p1 d (p2 d j)} : Finset (Dev nD)) ∧ p2 d j ≠ p1 d (p2 d j) := by decide
  rw [(hu j d).1, Finset.sum_insert (hu j d).2.1, Finset.sum_insert (hu j d).2.2.1, Finset.sum_pair (hu j d).2.2.2, add_assoc]

/-! ## The whole -/

variable (A : (⟨2, ![1536, 3072]⟩ : Shape).Idx → EReal) (B : (⟨2, ![3072, 1536]⟩ : Shape).Idx → EReal)

theorem blocks (f : Fin 3072 → EReal) : ∑ k : Fin 3072, f k = ∑ e : Fin 4, ∑ l : Fin 768, f ⟨e.val * 768 + l.val, by omega⟩ := by
  rw [← (finProdFinEquiv (m := 4) (n := 768)).sum_comp, Fintype.sum_prod_type]
  refine Finset.sum_congr rfl fun e _ => Finset.sum_congr rfl fun l _ => congrArg f (Fin.ext ?_)
  show l.val + 768 * e.val = e.val * 768 + l.val
  omega

theorem cut_cols : Layout.Tiles ⟨2, ![1536, 768]⟩ ⟨2, ![1536, 3072]⟩ 1 4 := by decide
theorem cut_rows : Layout.Tiles ⟨2, ![768, 1536]⟩ ⟨2, ![3072, 1536]⟩ 0 4 := by decide

variable (hA : ∀ c : Dev nD, m ((c.tc : Thread nD τ).loc main_arg0) = Layout.block ⟨2, ![1536, 768]⟩ ⟨2, ![1536, 3072]⟩ 1 4 c A cut_cols)
  (hB : ∀ c : Dev nD, m ((c.tc : Thread nD τ).loc main_arg1) = Layout.block ⟨2, ![768, 1536]⟩ ⟨2, ![3072, 1536]⟩ 0 4 c B cut_rows)
include hA hB

theorem part_whole (c j : Dev nD) (d : Fin 2) (r : Fin 384) (k : Fin 768) (h0 : 384 * j.val + r.val < 1536) (h1 : 768 * d.val + k.val < 1536) :
    part m c j d (ix2 r k) = (∑ l : Fin 768, A (ix2 ⟨384 * j.val + r.val, h0⟩ ⟨c.val * 768 + l.val, by have : c.val < 4 := c.isLt; omega⟩)
      * B (ix2 ⟨c.val * 768 + l.val, by have : c.val < 4 := c.isLt; omega⟩ ⟨768 * d.val + k.val, h1⟩) : EReal) := by
  rw [part_apply]
  refine Finset.sum_congr rfl fun l _ => congrArg₂ (· * ·) ?_ ?_
  · show m ((c : Thread nD τ).loc main_arg0) ((aRect j).emb (ix2 r l)) = _
    rw [hA c, Layout.block_apply]
    refine congrArg A (funext fun a => Fin.ext ?_)
    match a with
    | ⟨0, _⟩ =>
      show ((aRect j).emb (ix2 r l) 0).val = 384 * j.val + r.val
      rw [Rect.emb_apply]
      exact congrArg (384 * j.val + ·) (Nat.one_mul _)
    | ⟨1, _⟩ =>
      show c.val * 768 + ((aRect j).emb (ix2 r l) 1).val = c.val * 768 + l.val
      rw [Rect.emb_apply]
      exact congrArg (c.val * 768 + ·) ((Nat.zero_add _).trans (Nat.one_mul _))
  · show m ((c : Thread nD τ).loc main_arg1) ((bRect d).emb (ix2 l k)) = _
    rw [hB c, Layout.block_apply]
    refine congrArg B (funext fun a => Fin.ext ?_)
    match a with
    | ⟨0, _⟩ =>
      show c.val * 768 + ((bRect d).emb (ix2 l k) 0).val = c.val * 768 + l.val
      rw [Rect.emb_apply]
      exact congrArg (c.val * 768 + ·) ((Nat.zero_add _).trans (Nat.one_mul _))
    | ⟨1, _⟩ =>
      show ((bRect d).emb (ix2 l k) 1).val = 768 * d.val + k.val
      rw [Rect.emb_apply]
      exact congrArg (768 * d.val + ·) (Nat.one_mul _)

/-- The result of the kernel is the reference's. -/
theorem result_eq : result m = maximumf (F := Ideal)
    (Host.dotGeneral (φ₁ := .f32) (φ₂ := .f32) Cert.ReferenceIdeal.dot_S1536x3072_S3072x1536_S1536x1536_1_0_0_1_n_n none (A : FVec Ideal ⟨2, ![1536, 3072]⟩ .f32) (B : FVec Ideal ⟨2, ![3072, 1536]⟩ .f32))
    (broadcastInDim Cert.ReferenceIdeal.S1536x1536 ![] Cert.ReferenceIdeal.Facts₀.bcast_S_S1536x1536 (constant Cert.ReferenceIdeal.S_ .f32 0x00000000#32)) := by
  funext i
  have i0 : (i 0).val < 1536 := (i 0).isLt
  have i1 : (i 1).val < 1536 := (i 1).isLt
  obtain ⟨j, d, r, k, h0, h1, rfl⟩ : ∃ (j : Dev nD) (d : Fin 2) (r : Fin 384) (k : Fin 768) (h0 : 384 * j.val + r.val < 1536) (h1 : 768 * d.val + k.val < 1536),
      i = ix2 ⟨384 * j.val + r.val, h0⟩ ⟨768 * d.val + k.val, h1⟩ := by
    refine ⟨⟨(i 0).val / 384, Nat.div_lt_of_lt_mul i0⟩, ⟨(i 1).val / 768, Nat.div_lt_of_lt_mul i1⟩, ⟨(i 0).val % 384, Nat.mod_lt _ (by decide)⟩,
      ⟨(i 1).val % 768, Nat.mod_lt _ (by decide)⟩, (Nat.div_add_mod (i 0).val 384).trans_lt i0, (Nat.div_add_mod (i 1).val 768).trans_lt i1, ?_⟩
    funext a
    apply Fin.ext
    match a with
    | ⟨0, _⟩ => exact (Nat.div_add_mod (i 0).val 384).symm
    | ⟨1, _⟩ => exact (Nat.div_add_mod (i 1).val 768).symm
  rw [result_apply, fin_apply]
  refine congrArg₂ max ?_ ?_
  · refine Eq.trans ?_ (StackMember.dotGeneral_plain_apply (φ₁ := .f32) (φ₂ := .f32) none A B ⟨384 * j.val + r.val, h0⟩ ⟨768 * d.val + k.val, h1⟩).symm
    rw [four fun e => part m e j d (ix2 r k), blocks]
    exact Finset.sum_congr rfl fun e _ => part_whole m A B hA hB e j d r k h0 h1
  · exact Ideal.ofBits_zero_f32.symm

end Cert.AllReduce
end
-- ==== Proof.lean ====
/-
The certificate: the three frames, that the ideal kernel rewrites nothing, and that over the reals the kernel's result on
every device is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.ShloMosaic.TcCoe Idealize.SL.Sem

/-- The kernel over the reals: every execution ends, its arguments unchanged, every semaphore at zero. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.AllReduce.run_main m ρ)

/-- The kernel at its own floats has the same text, so the same run. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (Cert.AllReduce.run_main (F := Bits) m ρ)

/-- The reference: it ends, its arguments unchanged; it has no semaphores. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run m ρ)

/-- Over the reals every device's result is the reference's. -/
theorem algebraic : Cert.algebraic_KernelIdeal_ReferenceIdeal (hKernelIdeal := Cert.KernelIdeal.Gen.facts)
    (hReferenceIdeal := Cert.ReferenceIdeal.Gen.facts) := fun m ρ m' ρ' _ hagree =>
  ⟨_, (θ_run Cert.KernelIdeal.defs _ _).mono (fun _ h c => ⟨(h.1 c).2.2.trans (Cert.AllReduce.result_eq m _ _ (fun c => (hagree c).1) (fun c => (hagree c).2)),
      (h.1 c).1, (h.1 c).2.1⟩) (Cert.AllReduce.run_main m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
